-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "q_scale" .f32 0x3E38AA3B#32 ((8⁻¹ * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v77_0)) (v1 : (c : Dev Cert.KernelIdeal.nD) → Buf (Elt Ideal) ((c.tc : Thread Cert.KernelIdeal.nD Cert.KernelIdeal.τ).loc Cert.KernelIdeal.main_v77_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77_0) = v0 c
          ∧ r.2.mem ((c.tc : Thread Cert.KernelIdeal.nD Cert.KernelIdeal.τ).loc Cert.KernelIdeal.main_v77_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v201) = v0 c
          ∧ r.2.mem ((c.tc : Thread Cert.ReferenceIdeal.nD Cert.ReferenceIdeal.τ).loc Cert.ReferenceIdeal.main_v202) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x4096x2048 : Shape := ⟨3, ![8, 4096, 2048]⟩
abbrev S1x2048 : Shape := ⟨2, ![1, 2048]⟩
abbrev S1x2048x6656 : Shape := ⟨3, ![1, 2048, 6656]⟩
abbrev S1x64 : Shape := ⟨2, ![1, 64]⟩
abbrev S1x16 : Shape := ⟨2, ![1, 16]⟩
abbrev S_ : Shape := ⟨0, ![]⟩

class Facts : Prop where
  bcast_S_S1x2048 : S_.BroadcastsInDim S1x2048 (![] : Fin 0 → Fin S1x2048.rank)
  bcast_S_S1x2048x6656 : S_.BroadcastsInDim S1x2048x6656 (![] : Fin 0 → Fin S1x2048x6656.rank)
  bcast_S_S1x64 : S_.BroadcastsInDim S1x64 (![] : Fin 0 → Fin S1x64.rank)
  bcast_S_S1x16 : S_.BroadcastsInDim S1x16 (![] : Fin 0 → Fin S1x16.rank)

variable [Facts]

def fn {F : FTy → Type} [FloatOps F] (main_arg0 : FVec F S8x4096x2048 .f32) (main_arg1 : FVec F S1x2048 .f32) (main_arg2 : FVec F S1x2048x6656 .f32) (main_arg3 : FVec F S1x64 .f32) (main_arg4 : FVec F S1x64 .f32) (main_arg5 : FVec F S1x16 .f32) : IVec S1x2048 1 × IVec S1x2048x6656 1 × IVec S1x64 1 × IVec S1x64 1 × IVec S1x16 1 :=
  let main_v0 : FVec F S1x2048 .f32 := Host.absf main_arg1
  let main_cst : FVec F S_ .f32 := constant S_ .f32 0x7F800000#32
  let main_v1 : FVec F S1x2048 .f32 := broadcastInDim S1x2048 ![] bcast_S_S1x2048 main_cst
  let main_v2 : IVec S1x2048 1 := cmpf .olt main_v0 main_v1
  let main_v3 : FVec F S1x2048x6656 .f32 := Host.absf main_arg2
  let main_cst_0 : FVec F S_ .f32 := constant S_ .f32 0x7F800000#32
  let main_v4 : FVec F S1x2048x6656 .f32 := broadcastInDim S1x2048x6656 ![] bcast_S_S1x2048x6656 main_cst_0
  let main_v5 : IVec S1x2048x6656 1 := cmpf .olt main_v3 main_v4
  let main_v6 : FVec F S1x64 .f32 := Host.absf main_arg3
  let main_cst_1 : FVec F S_ .f32 := constant S_ .f32 0x7F800000#32
  let main_v7 : FVec F S1x64 .f32 := broadcastInDim S1x64 ![] bcast_S_S1x64 main_cst_1
  let main_v8 : IVec S1x64 1 := cmpf .olt main_v6 main_v7
  let main_v9 : FVec F S1x64 .f32 := Host.absf main_arg4
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_v12 : FVec F S1x16 .f32 := Host.absf main_arg5
  let main_cst_3 : FVec F S_ .f32 := constant S_ .f32 0x7F800000#32
  let main_v13 : FVec F S1x16 .f32 := broadcastInDim S1x16 ![] bcast_S_S1x16 main_cst_3
  let main_v14 : IVec S1x16 1 := cmpf .olt main_v12 main_v13
  (main_v2, main_v5, main_v8, main_v11, main_v14)
-- ==== Kernel.lean ====
abbrev S8x4096x2048 : Shape := ⟨3, ![8, 4096, 2048]⟩
abbrev S1x2048 : Shape := ⟨2, ![1, 2048]⟩
abbrev S1x2048x6656 : Shape := ⟨3, ![1, 2048, 6656]⟩
abbrev S1x64 : Shape := ⟨2, ![1, 64]⟩
abbrev S1x16 : Shape := ⟨2, ![1, 16]⟩
abbrev S1x6656 : Shape := ⟨2, ![1, 6656]⟩
abbrev S2048 : Shape := ⟨1, ![2048]⟩
abbrev S2048x6656 : Shape := ⟨2, ![2048, 6656]⟩
abbrev S64 : Shape := ⟨1, ![64]⟩
abbrev S16 : Shape := ⟨1, ![16]⟩
abbrev S32768x2048 : Shape := ⟨2, ![32768, 2048]⟩
abbrev S2x64 : Shape := ⟨2, ![2, 64]⟩
abbrev S128 : Shape := ⟨1, ![128]⟩
abbrev S1x128 : Shape := ⟨2, ![1, 128]⟩
abbrev S2048x1 : Shape := ⟨2, ![2048, 1]⟩
abbrev S8 : Shape := ⟨1, ![8]⟩
abbrev S_ : Shape := ⟨0, ![]⟩
abbrev S4096 : Shape := ⟨1, ![4096]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S4096x56 : Shape := ⟨2, ![4096, 56]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S4096x384 : Shape := ⟨2, ![4096, 384]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S1x128x256 : Shape := ⟨3, ![1, 128, 256]⟩
abbrev S2x128x256 : Shape := ⟨3, ![2, 128, 256]⟩
abbrev S32768x1024 : Shape := ⟨2, ![32768, 1024]⟩
abbrev S32768x4096 : Shape := ⟨2, ![32768, 4096]⟩
abbrev S256x2048 : Shape := ⟨2, ![256, 2048]⟩
abbrev S256x384 : Shape := ⟨2, ![256, 384]⟩
abbrev S256x1024 : Shape := ⟨2, ![256, 1024]⟩
abbrev S256x4096 : Shape := ⟨2, ![256, 4096]⟩
abbrev S256x2560 : Shape := ⟨2, ![256, 2560]⟩
abbrev S4x64x384 : Shape := ⟨3, ![4, 64, 384]⟩
abbrev S4x384x128 : Shape := ⟨3, ![4, 384, 128]⟩
abbrev S4x64x128 : Shape := ⟨3, ![4, 64, 128]⟩
abbrev S4x128x128 : Shape := ⟨3, ![4, 128, 128]⟩
abbrev S256x128 : Shape := ⟨2, ![256, 128]⟩
abbrev S128x128 : Shape := ⟨2, ![128, 128]⟩
abbrev S2048x512 : Shape := ⟨2, ![2048, 512]⟩
abbrev S256x512 : Shape := ⟨2, ![256, 512]⟩
abbrev S64x128 : Shape := ⟨2, ![64, 128]⟩
abbrev S1x64x128 : Shape := ⟨3, ![1, 64, 128]⟩
abbrev S1x128x128 : Shape := ⟨3, ![1, 128, 128]⟩
abbrev S1x64x256 : Shape := ⟨3, ![1, 64, 256]⟩
abbrev S64x256 : Shape := ⟨2, ![64, 256]⟩
abbrev S256x256 : Shape := ⟨2, ![256, 256]⟩
abbrev S1x256x128 : Shape := ⟨3, ![1, 256, 128]⟩
abbrev S512x128 : Shape := ⟨2, ![512, 128]⟩
abbrev S1 : Shape := ⟨1, ![1]⟩
abbrev S128x512 : Shape := ⟨2, ![128, 512]⟩
abbrev S32x2048 : Shape := ⟨2, ![32, 2048]⟩
abbrev S32 : Shape := ⟨1, ![32]⟩
abbrev S32x1 : Shape := ⟨2, ![32, 1]⟩

abbrev nBuf : Space → Nat
  | .hbm => 99
  | .vmem => 18
  | .smem => 1
  | _ => 0

abbrev bufTy : (tb : Table) → Fin (tcTables nBuf tb) → BufTy
  | .hbm, ⟨0, _⟩ => ⟨S8x4096x2048, .f32⟩
  | .hbm, ⟨1, _⟩ => ⟨S1x2048, .f32⟩
  | .hbm, ⟨2, _⟩ => ⟨S1x2048x6656, .f32⟩
  | .hbm, ⟨3, _⟩ => ⟨S1x64, .f32⟩
  | .hbm, ⟨4, _⟩ => ⟨S1x64, .f32⟩
  | .hbm, ⟨5, _⟩ => ⟨S1x16, .f32⟩
  | .hbm, ⟨6, _⟩ => ⟨S1x6656, .f32⟩
  | .hbm, ⟨7, _⟩ => ⟨S2048, .f32⟩
  | .hbm, ⟨8, _⟩ => ⟨S2048x6656, .f32⟩
  | .hbm, ⟨9, _⟩ => ⟨S64, .f32⟩
  | .hbm, ⟨10, _⟩ => ⟨S64, .f32⟩
  | .hbm, ⟨11, _⟩ => ⟨S16, .f32⟩
  | .hbm, ⟨12, _⟩ => ⟨S32768x2048, .f32⟩
  | .hbm, ⟨13, _⟩ => ⟨S1x64, .f32⟩
  | .hbm, ⟨14, _⟩ => ⟨S2x64, .f32⟩
  | .hbm, ⟨15, _⟩ => ⟨S128, .f32⟩
  | .hbm, ⟨16, _⟩ => ⟨S1x128, .f32⟩
  | .hbm, ⟨17, _⟩ => ⟨S1x64, .f32⟩
  | .hbm, ⟨18, _⟩ => ⟨S2x64, .f32⟩
  | .hbm, ⟨19, _⟩ => ⟨S128, .f32⟩
  | .hbm, ⟨20, _⟩ => ⟨S1x128, .f32⟩
  | .hbm, ⟨21, _⟩ => ⟨S2048x1, .f32⟩
  | .hbm, ⟨22, _⟩ => ⟨S2048x6656, .f32⟩
  | .hbm, ⟨23, _⟩ => ⟨S2048x6656, .f32⟩
  | .hbm, ⟨24, _⟩ => ⟨S2048x6656, .f32⟩
  | .hbm, ⟨25, _⟩ => ⟨S2048x6656, .f32⟩
  | .hbm, ⟨26, _⟩ => ⟨S2048x6656, .bf16⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S_, .f32⟩
  | .hbm, ⟨33, _⟩ => ⟨S8, .f32⟩
  | .hbm, ⟨34, _⟩ => ⟨S8, .f32⟩
  | .hbm, ⟨35, _⟩ => ⟨S_, .f32⟩
  | .hbm, ⟨36, _⟩ => ⟨S8, .f32⟩
  | .hbm, ⟨37, _⟩ => ⟨S8, .f32⟩
  | .hbm, ⟨38, _⟩ => ⟨S4096, .i32⟩
  | .hbm, ⟨39, _⟩ => ⟨S4096, .f32⟩
  | .hbm, ⟨40, _⟩ => ⟨S4096x1, .f32⟩
  | .hbm, ⟨41, _⟩ => ⟨S1x8, .f32⟩
  | .hbm, ⟨42, _⟩ => ⟨S4096x8, .f32⟩
  | .hbm, ⟨43, _⟩ => ⟨S4096x8, .f32⟩
  | .hbm, ⟨44, _⟩ => ⟨S4096x8, .f32⟩
  | .hbm, ⟨45, _⟩ => ⟨S4096x8, .f32⟩
  | .hbm, ⟨46, _⟩ => ⟨S4096x8, .f32⟩
  | .hbm, ⟨47, _⟩ => ⟨S_, .f32⟩
  | .hbm, ⟨48, _⟩ => ⟨S4096x48, .f32⟩
  | .hbm, ⟨49, _⟩ => ⟨S4096x64, .f32⟩
  | .hbm, ⟨50, _⟩ => ⟨S4096x8, .f32⟩
  | .hbm, ⟨51, _⟩ => ⟨S_, .f32⟩
  | .hbm, ⟨52, _⟩ => ⟨S4096x56, .f32⟩
  | .hbm, ⟨53, _⟩ => ⟨S4096x64, .f32⟩
  | .hbm, ⟨54, _⟩ => ⟨S_, .f32⟩
  | .hbm, ⟨55, _⟩ => ⟨S4096x8, .f32⟩
  | .hbm, ⟨56, _⟩ => ⟨S_, .f32⟩
  | .hbm, ⟨57, _⟩ => ⟨S4096x48, .f32⟩
  | .hbm, ⟨58, _⟩ => ⟨S4096x64, .f32⟩
  | .hbm, ⟨59, _⟩ => ⟨S1x4096x1x64, .f32⟩
  | .hbm, ⟨60, _⟩ => ⟨S1x4096x2x64, .f32⟩
  | .hbm, ⟨61, _⟩ => ⟨S4096x128, .f32⟩
  | .hbm, ⟨62, _⟩ => ⟨S1x4096x1x64, .f32⟩
  | .hbm, ⟨63, _⟩ => ⟨S1x4096x2x64, .f32⟩
  | .hbm, ⟨64, _⟩ => ⟨S4096x128, .f32⟩
  | .hbm, ⟨65, _⟩ => ⟨S1x4096x1x64, .f32⟩
  | .hbm, ⟨66, _⟩ => ⟨S1x4096x2x64, .f32⟩
  | .hbm, ⟨67, _⟩ => ⟨S4096x128, .f32⟩
  | .hbm, ⟨68, _⟩ => ⟨S4096x384, .f32⟩
  | .hbm, ⟨69, _⟩ => ⟨S128, .i32⟩
  | .hbm, ⟨70, _⟩ => ⟨S128x1, .i32⟩
  | .hbm, ⟨71, _⟩ => ⟨S256, .i32⟩
  | .hbm, ⟨72, _⟩ => ⟨S1x256, .i32⟩
  | .hbm, ⟨73, _⟩ => ⟨S128x256, .i32⟩
  | .hbm, ⟨74, _⟩ => ⟨S128x256, .i32⟩
  | .hbm, ⟨75, _⟩ => ⟨S128x256, .i1⟩
  | .hbm, ⟨76, _⟩ => ⟨S_, .i32⟩
  | .hbm, ⟨77, _⟩ => ⟨S128x1, .i32⟩
  | .hbm, ⟨78, _⟩ => ⟨S128x1, .i32⟩
  | .hbm, ⟨79, _⟩ => ⟨S128x256, .i32⟩
  | .hbm, ⟨80, _⟩ => ⟨S128x256, .i32⟩
  | .hbm, ⟨81, _⟩ => ⟨S128x256, .i1⟩
  | .hbm, ⟨82, _⟩ => ⟨S128x256, .i1⟩
  | .hbm, ⟨83, _⟩ => ⟨S_, .i32⟩
  | .hbm, ⟨84, _⟩ => ⟨S1x256, .i32⟩
  | .hbm, ⟨85, _⟩ => ⟨S1x256, .i1⟩
  | .hbm, ⟨86, _⟩ => ⟨S128x256, .i1⟩
  | .hbm, ⟨87, _⟩ => ⟨S128x256, .i1⟩
  | .hbm, ⟨88, _⟩ => ⟨S1x128x256, .i1⟩
  | .hbm, ⟨89, _⟩ => ⟨S1x128x256, .i1⟩
  | .hbm, ⟨90, _⟩ => ⟨S2x128x256, .i1⟩
  | .hbm, ⟨91, _⟩ => ⟨S_, .f32⟩
  | .hbm, ⟨92, _⟩ => ⟨S_, .f32⟩
  | .hbm, ⟨93, _⟩ => ⟨S2x128x256, .f32⟩
  | .hbm, ⟨94, _⟩ => ⟨S2x128x256, .f32⟩
  | .hbm, ⟨95, _⟩ => ⟨S2x128x256, .f32⟩
  | .hbm, ⟨96, _⟩ => ⟨S2x128x256, .f32⟩
  | .hbm, ⟨97, _⟩ => ⟨S32768x1024, .bf16⟩
  | .hbm, ⟨98, _⟩ => ⟨S32768x4096, .f32⟩
  | .local _ .vmem, ⟨0, _⟩ => ⟨S256x2048, .f32⟩
  | .local _ .vmem, ⟨1, _⟩ => ⟨S256x2048, .f32⟩
  | .local _ .vmem, ⟨2, _⟩ => ⟨S2048x6656, .bf16⟩
  | .local _ .vmem, ⟨3, _⟩ => ⟨S256x384, .f32⟩
  | .local _ .vmem, ⟨4, _⟩ => ⟨S256x384, .f32⟩
  | .local _ .vmem, ⟨5, _⟩ => ⟨S2x128x256, .f32⟩
  | .local _ .vmem, ⟨6, _⟩ => ⟨S1x128, .f32⟩
  | .local _ .vmem, ⟨7, _⟩ => ⟨S1x128, .f32⟩
  | .local _ .vmem, ⟨8, _⟩ => ⟨S256x1024, .bf16⟩
  | .local _ .vmem, ⟨9, _⟩ => ⟨S256x1024, .bf16⟩
  | .local _ .vmem, ⟨10, _⟩ => ⟨S256x4096, .f32⟩
  | .local _ .vmem, ⟨11, _⟩ => ⟨S256x4096, .f32⟩
  | .local _ .vmem, ⟨12, _⟩ => ⟨S256x2048, .bf16⟩
  | .local _ .vmem, ⟨13, _⟩ => ⟨S256x2048, .bf16⟩
  | .local _ .vmem, ⟨14, _⟩ => ⟨S256x2560, .f32⟩
  | .local _ .vmem, ⟨15, _⟩ => ⟨S256x2560, .f32⟩
  | .local _ .vmem, ⟨16, _⟩ => ⟨S4x64x384, .bf16⟩
  | .local _ .vmem, ⟨17, _⟩ => ⟨S4x384x128, .bf16⟩
  | .local _ .smem, ⟨0, _⟩ => ⟨S16, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_0 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_3 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_4 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_c : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_c_7 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_cst_8 : Ref sig .tc := ⟨.hbm, 91, rfl⟩
abbrev main_cst_9 : Ref sig .tc := ⟨.hbm, 92, rfl⟩
abbrev main_call0_v0 : Ref sig .tc := ⟨.hbm, 93, rfl⟩
abbrev main_call0_v1 : Ref sig .tc := ⟨.hbm, 94, rfl⟩
abbrev main_v75 : Ref sig .tc := ⟨.hbm, 95, rfl⟩
abbrev main_v76 : Ref sig .tc := ⟨.hbm, 96, rfl⟩
abbrev main_v77_0 : Ref sig .tc := ⟨.hbm, 97, rfl⟩
abbrev main_v77_1 : Ref sig .tc := ⟨.hbm, 98, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![130], ![false]⟩

def k0_cond3 (i : grid0.Coords) : BitVec 1 :=
  let arg0 : BitVec 32 := BitVec.ofNat 32 (i 0).val
  let c2_i32_7 : BitVec 32 := 2#32
  let c0_i32_8 : BitVec 32 := 0#32
  let v18 : BitVec 1 := Scalar.cmpi .eq c2_i32_7 c0_i32_8
  let c1_i32_9 : BitVec 32 := 1#32
  let v19 : BitVec 32 := Scalar.select v18 c1_i32_9 c2_i32_7
  let v20 : BitVec 32 := Scalar.remsi arg0 v19
  let c0_i32_11 : BitVec 32 := 0#32
  let v22 : BitVec 1 := Scalar.cmpi .slt v20 c0_i32_11
  let c0_i32_12 : BitVec 32 := 0#32
  let v23 : BitVec 1 := Scalar.cmpi .slt v19 c0_i32_12
  let v24 : BitVec 1 := Scalar.xori v22 v23
  let c0_i32_10 : BitVec 32 := 0#32
  let v21 : BitVec 1 := Scalar.cmpi .ne v20 c0_i32_10
  let v25 : BitVec 1 := Scalar.andi v24 v21
  let v26 : BitVec 32 := Scalar.addi v20 v19
  let v27 : BitVec 32 := Scalar.select v25 v26 v20
  let c0_i32_13 : BitVec 32 := 0#32
  let v28 : BitVec 1 := Scalar.cmpi .eq v27 c0_i32_13
  let v29 : BitVec 32 := Scalar.extui v28
  let c0_i32_14 : BitVec 32 := 0#32
  let v30 : BitVec 1 := Scalar.cmpi .ne v29 c0_i32_14
  v30

def k0_off1 (i : grid0.Coords) : Fin 3 → Nat :=
  let arg0 : BitVec 32 := BitVec.ofNat 32 (i 0).val
  let c32_i32 : BitVec 32 := 32#32
  let v0 : BitVec 32 := Scalar.addi arg0 c32_i32
  let c2_i32 : BitVec 32 := 2#32
  let v1 : BitVec 32 := Scalar.subi v0 c2_i32
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_3 : BitVec 32 := 0#32
  let v12 : BitVec 1 := Scalar.cmpi .eq v11 c0_i32_3
  let v124 : BitVec 32 := Scalar.extui v12
  let v348 : Index := Scalar.indexCast v124
  let c0_148 : Index := 0#32
  let c0_149 : Index := 0#32
  ![v348.toNat, 0, 0]
def k0_cond4 (i : grid0.Coords) : BitVec 1 :=
  let arg0 : BitVec 32 := BitVec.ofNat 32 (i 0).val
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi arg0 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let c1_i32_21 : BitVec 32 := 1#32
  let v41 : BitVec 1 := Scalar.cmpi .eq v40 c1_i32_21
  let v42 : BitVec 32 := Scalar.extui v41
  let c0_i32_22 : BitVec 32 := 0#32
  let v43 : BitVec 1 := Scalar.cmpi .ne v42 c0_i32_22
  v43

def k0_off2 (i : grid0.Coords) : Fin 3 → Nat :=
  let arg0 : BitVec 32 := BitVec.ofNat 32 (i 0).val
  let c32_i32 : BitVec 32 := 32#32
  let v0 : BitVec 32 := Scalar.addi arg0 c32_i32
  let c2_i32 : BitVec 32 := 2#32
  let v1 : BitVec 32 := Scalar.subi v0 c2_i32
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c0_i32_3 : BitVec 32 := 0#32
  let v12 : BitVec 1 := Scalar.cmpi .eq v11 c0_i32_3
  let v124 : BitVec 32 := Scalar.extui v12
  let v348 : Index := Scalar.indexCast v124
  let c0_148 : Index := 0#32
  let c0_149 : Index := 0#32
  ![v348.toNat, 0, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c32_i32 : BitVec 32 := 32#32
  let v0 : BitVec 32 := Scalar.addi arg0 c32_i32
  let c2_i32 : BitVec 32 := 2#32
  let v1 : BitVec 32 := Scalar.subi v0 c2_i32
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_0 : BitVec 32 := 0#32
  let v5 : BitVec 1 := Scalar.cmpi .ne v4 c0_i32_0
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let v9 : BitVec 1 := Scalar.andi v8 v5
  let v10 : BitVec 32 := Scalar.addi v4 v3
  let v11 : BitVec 32 := Scalar.select v9 v10 v4
  let c0_i32_3 : BitVec 32 := 0#32
  let c0_i32_4 : BitVec 32 := 0#32
  ![v11.toNat, c0_i32_3.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c127_i32 : BitVec 32 := 127#32
  let v1 : BitVec 32 := Scalar.maxsi c0_i32 v0
  let v2 : BitVec 32 := Scalar.minsi c127_i32 v1
  let c0_i32_0 : BitVec 32 := 0#32
  let c0_i32_1 : BitVec 32 := 0#32
  ![v2.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x6656 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "log2e" => some (((Real.log 2)⁻¹ : ℝ) : EReal)
  | "mask" => some ⊥
  | "q_scale" => some ((8⁻¹ * (Real.log 2)⁻¹ : ℝ) : EReal)
  | _ => none
-- ==== ReferenceIdeal.lean ====
abbrev S8x4096x2048 : Shape := ⟨3, ![8, 4096, 2048]⟩
abbrev S1x2048 : Shape := ⟨2, ![1, 2048]⟩
abbrev S1x2048x6656 : Shape := ⟨3, ![1, 2048, 6656]⟩
abbrev S1x64 : Shape := ⟨2, ![1, 64]⟩
abbrev S1x16 : Shape := ⟨2, ![1, 16]⟩
abbrev S4096 : Shape := ⟨1, ![4096]⟩
abbrev S2048 : Shape := ⟨1, ![2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S2048x6656 : Shape := ⟨2, ![2048, 6656]⟩
abbrev S8x4096x6656 : Shape := ⟨3, ![8, 4096, 6656]⟩
abbrev S8x4096x1024 : Shape := ⟨3, ![8, 4096, 1024]⟩
abbrev S8x4096x256 : Shape := ⟨3, ![8, 4096, 256]⟩
abbrev S8x4096x16x64 : Shape := ⟨4, ![8, 4096, 16, 64]⟩
abbrev S8x4096x4x64 : Shape := ⟨4, ![8, 4096, 4, 64]⟩
abbrev S64 : Shape := ⟨1, ![64]⟩
abbrev S8x4096x16 : Shape := ⟨3, ![8, 4096, 16]⟩
abbrev S8x4096x16x1 : Shape := ⟨4, ![8, 4096, 16, 1]⟩
abbrev S1x1x1x64 : Shape := ⟨4, ![1, 1, 1, 64]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S1x4096x1x8 : Shape := ⟨4, ![1, 4096, 1, 8]⟩
abbrev S8x4096x16x16 : Shape := ⟨4, ![8, 4096, 16, 16]⟩
abbrev S8x4096x16x8 : Shape := ⟨4, ![8, 4096, 16, 8]⟩
abbrev S8x4096x16x48 : Shape := ⟨4, ![8, 4096, 16, 48]⟩
abbrev S8x4096x4 : Shape := ⟨3, ![8, 4096, 4]⟩
abbrev S8x4096x4x1 : Shape := ⟨4, ![8, 4096, 4, 1]⟩
abbrev S8x4096x4x16 : Shape := ⟨4, ![8, 4096, 4, 16]⟩
abbrev S8x4096x4x8 : Shape := ⟨4, ![8, 4096, 4, 8]⟩
abbrev S8x4096x4x48 : Shape := ⟨4, ![8, 4096, 4, 48]⟩
abbrev S16 : Shape := ⟨1, ![16]⟩
abbrev S8x32x128x4x4x64 : Shape := ⟨6, ![8, 32, 128, 4, 4, 64]⟩
abbrev S8x32x128x4x64 : Shape := ⟨5, ![8, 32, 128, 4, 64]⟩
abbrev S8x33x128x4x64 : Shape := ⟨5, ![8, 33, 128, 4, 64]⟩
abbrev S8x32x256x4x64 : Shape := ⟨5, ![8, 32, 256, 4, 64]⟩
abbrev S8x32x4x256x128x4 : Shape := ⟨6, ![8, 32, 4, 256, 128, 4]⟩
abbrev S8x32x4x4x128x256 : Shape := ⟨6, ![8, 32, 4, 4, 128, 256]⟩
abbrev S32 : Shape := ⟨1, ![32]⟩
abbrev S32x1 : Shape := ⟨2, ![32, 1]⟩
abbrev S128 : Shape := ⟨1, ![128]⟩
abbrev S1x128 : Shape := ⟨2, ![1, 128]⟩
abbrev S32x128 : Shape := ⟨2, ![32, 128]⟩
abbrev S256 : Shape := ⟨1, ![256]⟩
abbrev S1x256 : Shape := ⟨2, ![1, 256]⟩
abbrev S32x256 : Shape := ⟨2, ![32, 256]⟩
abbrev S32x128x1 : Shape := ⟨3, ![32, 128, 1]⟩
abbrev S32x1x256 : Shape := ⟨3, ![32, 1, 256]⟩
abbrev S32x128x256 : Shape := ⟨3, ![32, 128, 256]⟩
abbrev S1x32x1x1x128x256 : Shape := ⟨6, ![1, 32, 1, 1, 128, 256]⟩
abbrev S4x4 : Shape := ⟨2, ![4, 4]⟩
abbrev S1x1x4x4x1x1 : Shape := ⟨6, ![1, 1, 4, 4, 1, 1]⟩
abbrev S8x32x4x4x128 : Shape := ⟨5, ![8, 32, 4, 4, 128]⟩
abbrev S8x32x4x4x128x1 : Shape := ⟨6, ![8, 32, 4, 4, 128, 1]⟩
abbrev S8x32x4x64x4x128 : Shape := ⟨6, ![8, 32, 4, 64, 4, 128]⟩
abbrev S8x4096x4096 : Shape := ⟨3, ![8, 4096, 4096]⟩
abbrev S32768x1024 : Shape := ⟨2, ![32768, 1024]⟩
abbrev S32768x4096 : Shape := ⟨2, ![32768, 4096]⟩

abbrev nBuf : Space → Nat
  | .hbm => 250
  | .vmem => 0
  | .smem => 0
  | _ => 0

abbrev hbmTy0_0 (i : Nat) : BufTy := match i % 128 with
  | 0 => ⟨S8x4096x2048, .f32⟩
  | 1 => ⟨S1x2048, .f32⟩
  | 2 => ⟨S1x2048x6656, .f32⟩
  | 3 => ⟨S1x64, .f32⟩
  | 4 => ⟨S1x64, .f32⟩
  | 5 => ⟨S1x16, .f32⟩
  | 6 => ⟨S4096, .i32⟩
  | 7 => ⟨S2048, .f32⟩
  | 8 => ⟨S8x4096x2048, .f32⟩
  | 9 => ⟨S_, .f32⟩
  | 10 => ⟨S8x4096, .f32⟩
  | 11 => ⟨S8x4096x1, .f32⟩
  | 12 => ⟨S_, .f32⟩
  | 13 => ⟨S8x4096x1, .f32⟩
  | 14 => ⟨S8x4096x1, .f32⟩
  | 15 => ⟨S_, .f32⟩
  | 16 => ⟨S8x4096x1, .f32⟩
  | 17 => ⟨S8x4096x1, .f32⟩
  | 18 => ⟨S8x4096x1, .f32⟩
  | 19 => ⟨S8x4096x2048, .f32⟩
  | 20 => ⟨S8x4096x2048, .f32⟩
  | 21 => ⟨S1x1x2048, .f32⟩
  | 22 => ⟨S8x4096x2048, .f32⟩
  | 23 => ⟨S8x4096x2048, .f32⟩
  | 24 => ⟨S2048x6656, .f32⟩
  | 25 => ⟨S8x4096x6656, .f32⟩
  | 26 => ⟨S8x4096x1024, .f32⟩
  | 27 => ⟨S8x4096x256, .f32⟩
  | 28 => ⟨S8x4096x256, .f32⟩
  | 29 => ⟨S8x4096x1024, .f32⟩
  | 30 => ⟨S8x4096x1024, .f32⟩
  | 31 => ⟨S8x4096x1024, .f32⟩
  | 32 => ⟨S8x4096x1024, .f32⟩
  | 33 => ⟨S8x4096x1024, .f32⟩
  | 34 => ⟨S8x4096x16x64, .f32⟩
  | 35 => ⟨S8x4096x4x64, .f32⟩
  | 36 => ⟨S8x4096x4x64, .f32⟩
  | 37 => ⟨S64, .f32⟩
  | 38 => ⟨S8x4096x16x64, .f32⟩
  | 39 => ⟨S_, .f32⟩
  | 40 => ⟨S8x4096x16, .f32⟩
  | 41 => ⟨S8x4096x16x1, .f32⟩
  | 42 => ⟨S_, .f32⟩
  | 43 => ⟨S8x4096x16x1, .f32⟩
  | 44 => ⟨S8x4096x16x1, .f32⟩
  | 45 => ⟨S_, .f32⟩
  | 46 => ⟨S8x4096x16x1, .f32⟩
  | 47 => ⟨S8x4096x16x1, .f32⟩
  | 48 => ⟨S8x4096x16x1, .f32⟩
  | 49 => ⟨S8x4096x16x64, .f32⟩
  | 50 => ⟨S8x4096x16x64, .f32⟩
  | 51 => ⟨S1x1x1x64, .f32⟩
  | 52 => ⟨S8x4096x16x64, .f32⟩
  | 53 => ⟨S8x4096x16x64, .f32⟩
  | 54 => ⟨S8, .f32⟩
  | 55 => ⟨S8, .f32⟩
  | 56 => ⟨S_, .f32⟩
  | 57 => ⟨S8, .f32⟩
  | 58 => ⟨S8, .f32⟩
  | 59 => ⟨S_, .f32⟩
  | 60 => ⟨S8, .f32⟩
  | 61 => ⟨S8, .f32⟩
  | 62 => ⟨S_, .f32⟩
  | 63 => ⟨S8, .f32⟩
  | 64 => ⟨S8, .f32⟩
  | 65 => ⟨S4096, .f32⟩
  | 66 => ⟨S4096x1, .f32⟩
  | 67 => ⟨S1x8, .f32⟩
  | 68 => ⟨S4096x8, .f32⟩
  | 69 => ⟨S4096x8, .f32⟩
  | 70 => ⟨S4096x8, .f32⟩
  | 71 => ⟨S4096x8, .f32⟩
  | 72 => ⟨S1x4096x1x8, .f32⟩
  | 73 => ⟨S4096x8, .f32⟩
  | 74 => ⟨S1x4096x1x8, .f32⟩
  | 75 => ⟨S8x4096x16x16, .f32⟩
  | 76 => ⟨S8x4096x16x8, .f32⟩
  | 77 => ⟨S8x4096x16x8, .f32⟩
  | 78 => ⟨S8x4096x16x8, .f32⟩
  | 79 => ⟨S8x4096x16x8, .f32⟩
  | 80 => ⟨S8x4096x16x8, .f32⟩
  | 81 => ⟨S8x4096x16x8, .f32⟩
  | 82 => ⟨S8x4096x16x8, .f32⟩
  | 83 => ⟨S8x4096x16x8, .f32⟩
  | 84 => ⟨S8x4096x16x8, .f32⟩
  | 85 => ⟨S8x4096x16x8, .f32⟩
  | 86 => ⟨S8x4096x16x8, .f32⟩
  | 87 => ⟨S8x4096x16x8, .f32⟩
  | 88 => ⟨S8x4096x16x16, .f32⟩
  | 89 => ⟨S8x4096x16x48, .f32⟩
  | 90 => ⟨S8x4096x16x64, .f32⟩
  | 91 => ⟨S64, .f32⟩
  | 92 => ⟨S8x4096x4x64, .f32⟩
  | 93 => ⟨S_, .f32⟩
  | 94 => ⟨S8x4096x4, .f32⟩
  | 95 => ⟨S8x4096x4x1, .f32⟩
  | 96 => ⟨S_, .f32⟩
  | 97 => ⟨S8x4096x4x1, .f32⟩
  | 98 => ⟨S8x4096x4x1, .f32⟩
  | 99 => ⟨S_, .f32⟩
  | 100 => ⟨S8x4096x4x1, .f32⟩
  | 101 => ⟨S8x4096x4x1, .f32⟩
  | 102 => ⟨S8x4096x4x1, .f32⟩
  | 103 => ⟨S8x4096x4x64, .f32⟩
  | 104 => ⟨S8x4096x4x64, .f32⟩
  | 105 => ⟨S1x1x1x64, .f32⟩
  | 106 => ⟨S8x4096x4x64, .f32⟩
  | 107 => ⟨S8x4096x4x64, .f32⟩
  | 108 => ⟨S8, .f32⟩
  | 109 => ⟨S8, .f32⟩
  | 110 => ⟨S_, .f32⟩
  | 111 => ⟨S8, .f32⟩
  | 112 => ⟨S8, .f32⟩
  | 113 => ⟨S_, .f32⟩
  | 114 => ⟨S8, .f32⟩
  | 115 => ⟨S8, .f32⟩
  | 116 => ⟨S_, .f32⟩
  | 117 => ⟨S8, .f32⟩
  | 118 => ⟨S8, .f32⟩
  | 119 => ⟨S4096, .f32⟩
  | 120 => ⟨S4096x1, .f32⟩
  | 121 => ⟨S1x8, .f32⟩
  | 122 => ⟨S4096x8, .f32⟩
  | 123 => ⟨S4096x8, .f32⟩
  | 124 => ⟨S4096x8, .f32⟩
  | 125 => ⟨S4096x8, .f32⟩
  | 126 => ⟨S1x4096x1x8, .f32⟩
  | 127 => ⟨S4096x8, .f32⟩
  | _ => ⟨S8x4096x2048, .f32⟩

abbrev hbmTy0_1 (i : Nat) : BufTy := match i % 128 with
  | 0 => ⟨S1x4096x1x8, .f32⟩
  | 1 => ⟨S8x4096x4x16, .f32⟩
  | 2 => ⟨S8x4096x4x8, .f32⟩
  | 3 => ⟨S8x4096x4x8, .f32⟩
  | 4 => ⟨S8x4096x4x8, .f32⟩
  | 5 => ⟨S8x4096x4x8, .f32⟩
  | 6 => ⟨S8x4096x4x8, .f32⟩
  | 7 => ⟨S8x4096x4x8, .f32⟩
  | 8 => ⟨S8x4096x4x8, .f32⟩
  | 9 => ⟨S8x4096x4x8, .f32⟩
  | 10 => ⟨S8x4096x4x8, .f32⟩
  | 11 => ⟨S8x4096x4x8, .f32⟩
  | 12 => ⟨S8x4096x4x8, .f32⟩
  | 13 => ⟨S8x4096x4x8, .f32⟩
  | 14 => ⟨S8x4096x4x16, .f32⟩
  | 15 => ⟨S8x4096x4x48, .f32⟩
  | 16 => ⟨S8x4096x4x64, .f32⟩
  | 17 => ⟨S16, .f32⟩
  | 18 => ⟨S8x32x128x4x4x64, .f32⟩
  | 19 => ⟨S8x32x128x4x64, .f32⟩
  | 20 => ⟨S_, .i32⟩
  | 21 => ⟨S_, .f32⟩
  | 22 => ⟨S8x33x128x4x64, .f32⟩
  | 23 => ⟨S8x32x128x4x64, .f32⟩
  | 24 => ⟨S8x32x256x4x64, .f32⟩
  | 25 => ⟨S8x32x128x4x64, .f32⟩
  | 26 => ⟨S_, .i32⟩
  | 27 => ⟨S_, .f32⟩
  | 28 => ⟨S8x33x128x4x64, .f32⟩
  | 29 => ⟨S8x32x128x4x64, .f32⟩
  | 30 => ⟨S8x32x256x4x64, .f32⟩
  | 31 => ⟨S8x32x4x256x128x4, .f32⟩
  | 32 => ⟨S8x32x4x4x128x256, .f32⟩
  | 33 => ⟨S_, .f32⟩
  | 34 => ⟨S8x32x4x4x128x256, .f32⟩
  | 35 => ⟨S8x32x4x4x128x256, .f32⟩
  | 36 => ⟨S32, .i32⟩
  | 37 => ⟨S32x1, .i32⟩
  | 38 => ⟨S_, .i32⟩
  | 39 => ⟨S32x1, .i32⟩
  | 40 => ⟨S32x1, .i32⟩
  | 41 => ⟨S128, .i32⟩
  | 42 => ⟨S1x128, .i32⟩
  | 43 => ⟨S32x128, .i32⟩
  | 44 => ⟨S32x128, .i32⟩
  | 45 => ⟨S32x128, .i32⟩
  | 46 => ⟨S32, .i32⟩
  | 47 => ⟨S32x1, .i32⟩
  | 48 => ⟨S_, .i32⟩
  | 49 => ⟨S32x1, .i32⟩
  | 50 => ⟨S32x1, .i32⟩
  | 51 => ⟨S_, .i32⟩
  | 52 => ⟨S32x1, .i32⟩
  | 53 => ⟨S32x1, .i32⟩
  | 54 => ⟨S256, .i32⟩
  | 55 => ⟨S1x256, .i32⟩
  | 56 => ⟨S32x256, .i32⟩
  | 57 => ⟨S32x256, .i32⟩
  | 58 => ⟨S32x256, .i32⟩
  | 59 => ⟨S32x128x1, .i32⟩
  | 60 => ⟨S32x1x256, .i32⟩
  | 61 => ⟨S32x128x256, .i32⟩
  | 62 => ⟨S32x128x256, .i32⟩
  | 63 => ⟨S32x128x256, .i32⟩
  | 64 => ⟨S_, .i32⟩
  | 65 => ⟨S32x128x256, .i32⟩
  | 66 => ⟨S32x128x256, .i1⟩
  | 67 => ⟨S_, .i32⟩
  | 68 => ⟨S32x128x256, .i32⟩
  | 69 => ⟨S32x128x256, .i1⟩
  | 70 => ⟨S32x128x256, .i1⟩
  | 71 => ⟨S32x1x256, .i32⟩
  | 72 => ⟨S_, .i32⟩
  | 73 => ⟨S32x1x256, .i32⟩
  | 74 => ⟨S32x1x256, .i1⟩
  | 75 => ⟨S32x128x256, .i1⟩
  | 76 => ⟨S32x128x256, .i1⟩
  | 77 => ⟨S1x32x1x1x128x256, .i1⟩
  | 78 => ⟨S_, .f32⟩
  | 79 => ⟨S_, .f32⟩
  | 80 => ⟨S8x32x4x4x128x256, .i1⟩
  | 81 => ⟨S8x32x4x4x128x256, .f32⟩
  | 82 => ⟨S8x32x4x4x128x256, .f32⟩
  | 83 => ⟨S4x4, .f32⟩
  | 84 => ⟨S1x1x4x4x1x1, .f32⟩
  | 85 => ⟨S_, .f32⟩
  | 86 => ⟨S8x32x4x4x128, .f32⟩
  | 87 => ⟨S8x32x4x4x128x1, .f32⟩
  | 88 => ⟨S8x32x4x4x128x1, .f32⟩
  | 89 => ⟨S8x32x4x4x128x1, .f32⟩
  | 90 => ⟨S8x32x4x4x128x256, .f32⟩
  | 91 => ⟨S8x32x4x4x128x256, .f32⟩
  | 92 => ⟨S8x32x4x4x128x256, .f32⟩
  | 93 => ⟨S_, .f32⟩
  | 94 => ⟨S8x32x4x4x128, .f32⟩
  | 95 => ⟨S8x32x4x4x128x1, .f32⟩
  | 96 => ⟨S8x32x4x4x128x1, .f32⟩
  | 97 => ⟨S8x32x4x4x128x1, .f32⟩
  | 98 => ⟨S8x32x4x4x128x1, .f32⟩
  | 99 => ⟨S8x32x4x4x128x1, .f32⟩
  | 100 => ⟨S8x32x4x4x128x256, .f32⟩
  | 101 => ⟨S8x32x4x4x128x256, .f32⟩
  | 102 => ⟨S8x32x4x64x4x128, .f32⟩
  | 103 => ⟨S8x32x128x4x4x64, .f32⟩
  | 104 => ⟨S8x4096x1024, .f32⟩
  | 105 => ⟨S8x4096x1024, .f32⟩
  | 106 => ⟨S8x4096x1024, .f32⟩
  | 107 => ⟨S_, .f32⟩
  | 108 => ⟨S8x4096x1024, .f32⟩
  | 109 => ⟨S8x4096x1024, .f32⟩
  | 110 => ⟨S_, .f32⟩
  | 111 => ⟨S8x4096x1024, .f32⟩
  | 112 => ⟨S8x4096x1024, .f32⟩
  | 113 => ⟨S8x4096x1024, .f32⟩
  | 114 => ⟨S8x4096x1024, .f32⟩
  | 115 => ⟨S_, .f32⟩
  | 116 => ⟨S8x4096x1024, .f32⟩
  | 117 => ⟨S8x4096x1024, .f32⟩
  | 118 => ⟨S8x4096x4096, .f32⟩
  | 119 => ⟨S32768x1024, .f32⟩
  | 120 => ⟨S32768x1024, .bf16⟩
  | 121 => ⟨S32768x4096, .f32⟩
  | _ => ⟨S8x4096x2048, .f32⟩

abbrev hbmTy (i : Nat) : BufTy := match i / 128 with
  | 0 => hbmTy0_0 i
  | 1 => hbmTy0_1 i
  | _ => ⟨S8x4096x2048, .f32⟩

abbrev bufTy : (tb : Table) → Fin (tcTables nBuf tb) → BufTy
  | .hbm, ⟨i, _⟩ => hbmTy i
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_5 : Ref sig .tc := ⟨.hbm, 56, rfl⟩
abbrev main_v44 : Ref sig .tc := ⟨.hbm, 57, rfl⟩
abbrev main_v45 : Ref sig .tc := ⟨.hbm, 58, rfl⟩
abbrev main_cst_6 : Ref sig .tc := ⟨.hbm, 59, rfl⟩
abbrev main_v46 : Ref sig .tc := ⟨.hbm, 60, rfl⟩
abbrev main_v47 : Ref sig .tc := ⟨.hbm, 61, rfl⟩
abbrev main_cst_7 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_cst_8 : Ref sig .tc := ⟨.hbm, 93, rfl⟩
abbrev main_v78 : Ref sig .tc := ⟨.hbm, 94, rfl⟩
abbrev main_v79 : Ref sig .tc := ⟨.hbm, 95, rfl⟩
abbrev main_cst_9 : Ref sig .tc := ⟨.hbm, 96, rfl⟩
abbrev main_v80 : Ref sig .tc := ⟨.hbm, 97, rfl⟩
abbrev main_v81 : Ref sig .tc := ⟨.hbm, 98, rfl⟩
abbrev main_cst_10 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_cst_11 : Ref sig .tc := ⟨.hbm, 110, rfl⟩
abbrev main_v92 : Ref sig .tc := ⟨.hbm, 111, rfl⟩
abbrev main_v93 : Ref sig .tc := ⟨.hbm, 112, rfl⟩
abbrev main_cst_12 : Ref sig .tc := ⟨.hbm, 113, rfl⟩
abbrev main_v94 : Ref sig .tc := ⟨.hbm, 114, rfl⟩
abbrev main_v95 : Ref sig .tc := ⟨.hbm, 115, rfl⟩
abbrev main_cst_13 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_c : Ref sig .tc := ⟨.hbm, 148, rfl⟩
abbrev main_call0_v0 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_c_14 : Ref sig .tc := ⟨.hbm, 154, rfl⟩
abbrev main_call1_v0 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_cst_15 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_c_16 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_c_17 : Ref sig .tc := ⟨.hbm, 176, rfl⟩
abbrev main_v149 : Ref sig .tc := ⟨.hbm, 177, rfl⟩
abbrev main_v150 : Ref sig .tc := ⟨.hbm, 178, rfl⟩
abbrev main_c_18 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_c_19 : Ref sig .tc := ⟨.hbm, 192, rfl⟩
abbrev main_v163 : Ref sig .tc := ⟨.hbm, 193, rfl⟩
abbrev main_v164 : Ref sig .tc := ⟨.hbm, 194, rfl⟩
abbrev main_c_20 : Ref sig .tc := ⟨.hbm, 195, rfl⟩
abbrev main_v165 : Ref sig .tc := ⟨.hbm, 196, rfl⟩
abbrev main_v166 : Ref sig .tc := ⟨.hbm, 197, rfl⟩
abbrev main_v167 : Ref sig .tc := ⟨.hbm, 198, rfl⟩
abbrev main_v168 : Ref sig .tc := ⟨.hbm, 199, rfl⟩
abbrev main_c_21 : Ref sig .tc := ⟨.hbm, 200, rfl⟩
abbrev main_v169 : Ref sig .tc := ⟨.hbm, 201, rfl⟩
abbrev main_v170 : Ref sig .tc := ⟨.hbm, 202, rfl⟩
abbrev main_v171 : Ref sig .tc := ⟨.hbm, 203, rfl⟩
abbrev main_v172 : Ref sig .tc := ⟨.hbm, 204, rfl⟩
abbrev main_v173 : Ref sig .tc := ⟨.hbm, 205, rfl⟩
abbrev main_cst_22 : Ref sig .tc := ⟨.hbm, 206, rfl⟩
abbrev main_call2_v0 : Ref sig .tc := ⟨.hbm, 207, rfl⟩
abbrev main_call2_v1 : Ref sig .tc := ⟨.hbm, 208, rfl⟩
abbrev main_call2_v2 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_cst_23 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_cst_24 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_v189 : Ref sig .tc := ⟨.hbm, 227, rfl⟩
abbrev main_v190 : Ref sig .tc := ⟨.hbm, 228, rfl⟩
abbrev main_v191 : Ref sig .tc := ⟨.hbm, 229, rfl⟩
abbrev main_v192 : Ref sig .tc := ⟨.hbm, 230, rfl⟩
abbrev main_v193 : Ref sig .tc := ⟨.hbm, 231, rfl⟩
abbrev main_v194 : Ref sig .tc := ⟨.hbm, 232, rfl⟩
abbrev main_call3_v0 : Ref sig .tc := ⟨.hbm, 233, rfl⟩
abbrev main_call3_v1 : Ref sig .tc := ⟨.hbm, 234, rfl⟩
abbrev main_call3_cst : Ref sig .tc := ⟨.hbm, 235, rfl⟩
abbrev main_call3_v2 : Ref sig .tc := ⟨.hbm, 236, rfl⟩
abbrev main_call3_v3 : Ref sig .tc := ⟨.hbm, 237, rfl⟩
abbrev main_call3_cst_0 : Ref sig .tc := ⟨.hbm, 238, rfl⟩
abbrev main_call3_v4 : Ref sig .tc := ⟨.hbm, 239, rfl⟩
abbrev main_call3_v5 : Ref sig .tc := ⟨.hbm, 240, rfl⟩
abbrev main_v195 : Ref sig .tc := ⟨.hbm, 241, rfl⟩
abbrev main_v196 : Ref sig .tc := ⟨.hbm, 242, rfl⟩
abbrev main_cst_25 : Ref sig .tc := ⟨.hbm, 243, rfl⟩
abbrev main_v197 : Ref sig .tc := ⟨.hbm, 244, rfl⟩
abbrev main_v198 : Ref sig .tc := ⟨.hbm, 245, rfl⟩
abbrev main_v199 : Ref sig .tc := ⟨.hbm, 246, rfl⟩
abbrev main_v200 : Ref sig .tc := ⟨.hbm, 247, rfl⟩
abbrev main_v201 : Ref sig .tc := ⟨.hbm, 248, rfl⟩
abbrev main_v202 : Ref sig .tc := ⟨.hbm, 249, rfl⟩

abbrev nD : Nat := 1
abbrev τ : Topo := Topo.v7x

variable {F : FTy → Type} [FloatOps F]
-- ==== Proof.RealMath.lean ====
module

public import Idealize.ShloMosaic.Lib.Pointwise

@[expose] public section

set_option maxRecDepth 16384

/-! The arithmetic the two programs share, on the real numbers inside the extended reals: sums and literals, the
    root-mean-square scale, the softmax with a sink taken in base two and in base `e`, and the two spellings of SiLU. -/

noncomputable section

namespace Cert.RealMath

open Idealize.ShloMosaic
open scoped BigOperators

/-- A sum of real numbers is the same sum taken in the extended reals. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s h ih => rw [Finset.sum_insert h, Finset.sum_insert h, ih, EReal.coe_add]

/-- A sum of extended reals, each known to be a real number. -/
theorem sum_eq_coe {ι : Type*} [Fintype ι] (f : ι → EReal) (g : ι → ℝ) (h : ∀ i, f i = (g i : EReal)) :
    (∑ i, f i) = ((∑ i, g i : ℝ) : EReal) := by
  rw [← coe_sum]; exact Finset.sum_congr rfl fun i _ => h i

/-- The small constant under the square roots. -/
def eps : ℝ := (8796093 : ℝ) * (2 : ℝ) ^ (-43 : ℤ)

theorem eps_pos : 0 < eps := by unfold eps; positivity

theorem ofBits_eps : Ideal.ofBits .f32 0x358637BD#32 = (eps : EReal) := by
  simp [Ideal.ofBits, Ideal.ieee, eps]

theorem ofBits_sixtyfourth : Ideal.ofBits .f32 0x3C800000#32 = ((1 / 64 : ℝ) : EReal) := by
  simp [Ideal.ofBits, Ideal.ieee, -EReal.coe_mul]; norm_num

theorem ofBits_64 : Ideal.ofBits .f32 0x42800000#32 = ((64 : ℝ) : EReal) := by
  simp [Ideal.ofBits, Ideal.ieee, -EReal.coe_mul]; norm_num

theorem ofBits_2048 : Ideal.ofBits .f32 0x45000000#32 = ((2048 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_eighth : Ideal.ofBits .f32 0x3E000000#32 = ((1 / 8 : ℝ) : EReal) := by
  simp [Ideal.ofBits, Ideal.ieee, -EReal.coe_mul]; norm_num

theorem ofBits_negInf : Ideal.ofBits .f32 0xFF800000#32 = ⊥ := by
  simp [Ideal.ofBits, Ideal.ieee]

/-- Division by a real number other than zero. -/
theorem div_coe (x y : ℝ) (hy : y ≠ 0) : Ideal.div (x : EReal) (y : EReal) = ((x / y : ℝ) : EReal) := by
  have : (y : EReal) ≠ 0 := by exact_mod_cast hy
  rw [Ideal.div, if_neg this, ← EReal.coe_inv, ← EReal.coe_mul, div_eq_mul_inv]

/-- The reciprocal square root of a positive real number. -/
theorem rsqrt_coe (x : ℝ) (hx : 0 < x) : Ideal.rsqrt (x : EReal) = (((Real.sqrt x)⁻¹ : ℝ) : EReal) := by
  show (if x < 0 then ⊥ else if x = 0 then ⊤ else (((Real.sqrt x)⁻¹ : ℝ) : EReal)) = _
  rw [if_neg (not_lt.mpr hx.le), if_neg hx.ne']

/-- The scale `1 / √(ss / n + eps)` of a mean square. -/
def rms (ss n : ℝ) : ℝ := (Real.sqrt (ss / n + eps))⁻¹

/-- An extended real times the reciprocal root of a mean of squares over its row is a real number, whatever the row: where
    an entry is infinite the mean is infinite and the scale zero. -/
theorem scaled_real {n : ℕ} (x : Fin n → EReal) (m : ℝ) (hm : 0 < m) (k : Fin n) :
    ((x k * Ideal.rsqrt (Ideal.div (∑ i, x i * x i) (m : EReal) + (eps : EReal))).toReal : EReal)
      = x k * Ideal.rsqrt (Ideal.div (∑ i, x i * x i) (m : EReal) + (eps : EReal)) := by
  have hsq : ∀ i, 0 ≤ x i * x i := fun i => by
    rcases le_total 0 (x i) with h | h
    · exact mul_nonneg h h
    · rw [← neg_mul_neg]
      exact mul_nonneg (EReal.neg_nonneg.mpr h) (EReal.neg_nonneg.mpr h)
  have hm0 : (m : EReal) ≠ 0 := by exact_mod_cast hm.ne'
  have hne : (∑ i, x i * x i) ≠ ⊥ := by
    intro h
    have := Finset.sum_nonneg (s := Finset.univ) fun i _ => hsq i
    rw [h] at this; simp at this
  by_cases ht : (∑ i, x i * x i) = ⊤
  · have h1 : Ideal.div ⊤ (m : EReal) = ⊤ := by
      rw [Ideal.div, if_neg hm0, ← EReal.coe_inv, EReal.top_mul_coe_of_pos (inv_pos.mpr hm)]
    rw [ht, h1, EReal.top_add_coe]
    show ((x k * (0 : EReal)).toReal : EReal) = x k * 0
    simp
  · have hle := Finset.single_le_sum (f := fun i => x i * x i) (s := Finset.univ) (fun i _ => hsq i) (Finset.mem_univ k)
    have hk : x k ≠ ⊤ ∧ x k ≠ ⊥ := by
      constructor <;> intro h <;> simp only [h] at hle
      · rw [EReal.top_mul_top, top_le_iff] at hle; exact ht hle
      · rw [EReal.bot_mul_bot, top_le_iff] at hle; exact ht hle
    obtain ⟨s, hs⟩ : ∃ s : ℝ, (∑ i, x i * x i) = (s : EReal) := ⟨_, (EReal.coe_toReal ht hne).symm⟩
    obtain ⟨y, hy⟩ : ∃ y : ℝ, x k = (y : EReal) := ⟨_, (EReal.coe_toReal hk.1 hk.2).symm⟩
    have hs0 : 0 ≤ s := by
      have := Finset.sum_nonneg (s := Finset.univ) fun i _ => hsq i
      rw [hs] at this; exact_mod_cast this
    rw [hs, hy, div_coe _ _ hm.ne', ← EReal.coe_add,
      rsqrt_coe _ (by have := eps_pos; positivity), ← EReal.coe_mul, EReal.toReal_coe]

/-! ### The softmax -/

/-- The factor between the natural and the binary exponent. -/
def kap : ℝ := (Real.log 2)⁻¹

theorem log2_pos : 0 < Real.log 2 := Real.log_pos (by norm_num)

theorem exp2_coe (x : ℝ) : Ideal.exp2 (x : EReal) = ((Real.exp (x * Real.log 2) : ℝ) : EReal) := by
  show ((Real.rpow 2 x : ℝ) : EReal) = _
  congr 1
  show (2 : ℝ) ^ x = _
  rw [Real.rpow_def_of_pos (by norm_num), mul_comm]

theorem exp_coe (x : ℝ) : Ideal.exp (x : EReal) = ((Real.exp x : ℝ) : EReal) := rfl

/-- The weight of a column: `e ^ S` inside the band, nothing outside. -/
def wt (P : Fin 256 → Prop) [DecidablePred P] (S : Fin 256 → ℝ) (c : Fin 256) : ℝ := if P c then Real.exp (S c) else 0

/-- Attention over the columns in the band, with the sink's weight in the denominator only. -/
def att (P : Fin 256 → Prop) [DecidablePred P] (S : Fin 256 → ℝ) (a : ℝ) (v : Fin 256 → ℝ) : ℝ :=
  (∑ c, wt P S c * v c) / ((∑ c, wt P S c) + Real.exp a)

theorem wt_nonneg (P : Fin 256 → Prop) [DecidablePred P] (S : Fin 256 → ℝ) (c : Fin 256) : 0 ≤ wt P S c := by
  unfold wt; split
  · exact (Real.exp_pos _).le
  · exact le_rfl

theorem den_pos (P : Fin 256 → Prop) [DecidablePred P] (S : Fin 256 → ℝ) (a : ℝ) : 0 < (∑ c, wt P S c) + Real.exp a :=
  add_pos_of_nonneg_of_pos (Finset.sum_nonneg fun c _ => wt_nonneg P S c) (Real.exp_pos a)

/-- The greatest of scores that are real or `⊥`, and of a real sink, is a real number. -/
theorem max_real (f : Fin 256 → EReal) (hf : ∀ c, f c ≠ ⊤) (a : ℝ) :
    ∃ M : ℝ, max (Finset.univ.fold max ⊥ f) (a : EReal) = (M : EReal) := by
  have h1 : max (Finset.univ.fold max ⊥ f) (a : EReal) ≠ ⊤ := by
    apply ne_of_lt
    rw [max_lt_iff]
    refine ⟨?_, EReal.coe_lt_top a⟩
    rw [Finset.fold_max_lt]
    exact ⟨bot_lt_top, fun c _ => lt_top_iff_ne_top.mpr (hf c)⟩
  have h2 : max (Finset.univ.fold max ⊥ f) (a : EReal) ≠ ⊥ := by
    apply ne_of_gt
    exact lt_of_lt_of_le (EReal.bot_lt_coe a) (le_max_right _ _)
  exact ⟨_, (EReal.coe_toReal h1 h2).symm⟩

/-- A score of the kernel, in base two, or `⊥` outside the band. -/
def kscore (P : Fin 256 → Prop) [DecidablePred P] (S : Fin 256 → ℝ) (c : Fin 256) : EReal :=
  if P c then ((kap * S c : ℝ) : EReal) else ⊥

/-- A score of the reference, or `⊥` outside the band. -/
def rscore (P : Fin 256 → Prop) [DecidablePred P] (S : Fin 256 → ℝ) (c : Fin 256) : EReal :=
  if P c then ((S c : ℝ) : EReal) else ⊥

theorem kscore_ne_top (P : Fin 256 → Prop) [DecidablePred P] (S : Fin 256 → ℝ) (c : Fin 256) : kscore P S c ≠ ⊤ := by
  unfold kscore; split
  · exact EReal.coe_ne_top _
  · exact bot_ne_top

theorem rscore_ne_top (P : Fin 256 → Prop) [DecidablePred P] (S : Fin 256 → ℝ) (c : Fin 256) : rscore P S c ≠ ⊤ := by
  unfold rscore; split
  · exact EReal.coe_ne_top _
  · exact bot_ne_top

/-- The kernel's softmax of the scores `s` with the sink `k`, at their greatest `m`: one column's weight and the sum of all,
    both scaled by the same positive factor. -/
theorem kernel_weights (P : Fin 256 → Prop) [DecidablePred P] (S : Fin 256 → ℝ) (a : ℝ) (s : Fin 256 → EReal)
    (hs : ∀ c, s c = kscore P S c) (k : EReal) (hk : k = ((kap * a : ℝ) : EReal)) :
    ∃ f : ℝ, 0 < f ∧
      (∀ c, Ideal.exp2 (s c - max (Finset.univ.fold max ⊥ s) k) = ((f * wt P S c : ℝ) : EReal)) ∧
      (∑ c, Ideal.exp2 (s c - max (Finset.univ.fold max ⊥ s) k)) + Ideal.exp2 (k - max (Finset.univ.fold max ⊥ s) k)
        = ((f * ((∑ c, wt P S c) + Real.exp a) : ℝ) : EReal) := by
  obtain ⟨M, hM⟩ := max_real s (fun c => by rw [hs]; exact kscore_ne_top P S c) (kap * a)
  have hk1 : ∀ x : ℝ, (kap * x - M) * Real.log 2 = -(M * Real.log 2) + x := fun x => by
    have := log2_pos.ne'
    unfold kap; field_simp; ring
  have he : ∀ c, Ideal.exp2 (s c - (M : EReal)) = ((Real.exp (-(M * Real.log 2)) * wt P S c : ℝ) : EReal) := fun c => by
    rw [hs]; unfold kscore wt
    split
    · rw [← EReal.coe_sub, exp2_coe, hk1, Real.exp_add]
    · rw [EReal.bot_sub, mul_zero]; rfl
  subst hk
  rw [hM]
  refine ⟨Real.exp (-(M * Real.log 2)), Real.exp_pos _, he, ?_⟩
  rw [sum_eq_coe _ _ he, ← EReal.coe_sub, exp2_coe, hk1, Real.exp_add, ← EReal.coe_add, ← Finset.mul_sum, mul_add]

/-- The reference's softmax, likewise. -/
theorem ref_weights (P : Fin 256 → Prop) [DecidablePred P] (S : Fin 256 → ℝ) (a : ℝ) (s : Fin 256 → EReal)
    (hs : ∀ c, s c = rscore P S c) (k : EReal) (hk : k = (a : EReal)) :
    ∃ f : ℝ, 0 < f ∧
      (∀ c, Ideal.exp (s c - max (Finset.univ.fold max ⊥ s) k) = ((f * wt P S c : ℝ) : EReal)) ∧
      (∑ c, Ideal.exp (s c - max (Finset.univ.fold max ⊥ s) k)) + Ideal.exp (k - max (Finset.univ.fold max ⊥ s) k)
        = ((f * ((∑ c, wt P S c) + Real.exp a) : ℝ) : EReal) := by
  obtain ⟨M, hM⟩ := max_real s (fun c => by rw [hs]; exact rscore_ne_top P S c) a
  have he : ∀ c, Ideal.exp (s c - (M : EReal)) = ((Real.exp (-M) * wt P S c : ℝ) : EReal) := fun c => by
    rw [hs]; unfold rscore wt
    split
    · rw [← EReal.coe_sub, exp_coe, sub_eq_neg_add, Real.exp_add]
    · rw [EReal.bot_sub, mul_zero]; rfl
  subst hk
  rw [hM]
  refine ⟨Real.exp (-M), Real.exp_pos _, he, ?_⟩
  rw [sum_eq_coe _ _ he, ← EReal.coe_sub, exp_coe, sub_eq_neg_add, Real.exp_add, ← EReal.coe_add, ← Finset.mul_sum, mul_add]

/-- The kernel's weighted sum times the reciprocal of its denominator. -/
theorem kernel_att (P : Fin 256 → Prop) [DecidablePred P] (S : Fin 256 → ℝ) (a : ℝ) (v : Fin 256 → ℝ) (f : ℝ) (hf : 0 < f)
    (e : Fin 256 → EReal) (he : ∀ c, e c = ((f * wt P S c : ℝ) : EReal)) (den : EReal)
    (hd : den = ((f * ((∑ c, wt P S c) + Real.exp a) : ℝ) : EReal)) :
    (∑ c, e c * (v c : EReal)) * Ideal.div 1 den = (att P S a v : EReal) := by
  have hp := den_pos P S a
  rw [sum_eq_coe _ (fun c => f * (wt P S c * v c)) (fun c => by rw [he, ← EReal.coe_mul, mul_assoc]), hd,
    ← EReal.coe_one, div_coe _ _ (mul_pos hf hp).ne', ← EReal.coe_mul, ← Finset.mul_sum]
  congr 1
  unfold att
  field_simp

/-- The reference's sum of values weighted by the quotients. -/
theorem ref_att (P : Fin 256 → Prop) [DecidablePred P] (S : Fin 256 → ℝ) (a : ℝ) (v : Fin 256 → ℝ) (f : ℝ) (hf : 0 < f)
    (e : Fin 256 → EReal) (he : ∀ c, e c = ((f * wt P S c : ℝ) : EReal)) (den : EReal)
    (hd : den = ((f * ((∑ c, wt P S c) + Real.exp a) : ℝ) : EReal)) :
    (∑ c, (v c : EReal) * Ideal.div (e c) den) = (att P S a v : EReal) := by
  have hp := den_pos P S a
  rw [sum_eq_coe _ (fun c => (wt P S c * v c) / ((∑ c, wt P S c) + Real.exp a)) (fun c => by
    rw [he, hd, div_coe _ _ (mul_pos hf hp).ne', ← EReal.coe_mul]
    congr 1
    field_simp)]
  unfold att
  rw [Finset.sum_div]

/-! ### SiLU -/

/-- `x / (1 + e ^ (-x))`. -/
def silu (x : ℝ) : ℝ := x * (1 / (1 + Real.exp (-x)))

theorem silu_of_half (x : ℝ) :
    ((x / 2 : ℝ) : EReal) + ((x / 2 : ℝ) : EReal) * Ideal.tanh ((x / 2 : ℝ) : EReal) = (silu x : EReal) := by
  show ((x / 2 : ℝ) : EReal) + ((x / 2 : ℝ) : EReal) * ((Real.tanh (x / 2) : ℝ) : EReal) = _
  rw [← EReal.coe_mul, ← EReal.coe_add]
  congr 1
  unfold silu
  rw [Real.tanh_eq_sinh_div_cosh, Real.sinh_eq, Real.cosh_eq]
  have h1 : Real.exp (-x) = Real.exp (-(x / 2)) * Real.exp (-(x / 2)) := by rw [← Real.exp_add]; congr 1; ring
  have h2 : Real.exp (x / 2) * Real.exp (-(x / 2)) = 1 := by rw [← Real.exp_add]; simp
  have p1 := Real.exp_pos (x / 2)
  have p2 := Real.exp_pos (-(x / 2))
  rw [h1]
  generalize Real.exp (x / 2) = u at *
  generalize Real.exp (-(x / 2)) = w at *
  have hu : u = w⁻¹ := eq_inv_of_mul_eq_one_left h2
  subst hu
  field_simp
  ring

theorem silu_ref (x : ℝ) :
    (x : EReal) * Ideal.div 1 (1 + Ideal.exp (-(x : EReal))) = (silu x : EReal) := by
  rw [← EReal.coe_neg, exp_coe, ← EReal.coe_one, ← EReal.coe_add,
    div_coe _ _ (by have := Real.exp_pos (-x); positivity), ← EReal.coe_mul]
  rfl

end Cert.RealMath
-- ==== Proof.Units.lean ====
module

public import proofs.«01_k».proof.Proof.Gen.KernelIdeal.Skeleton
public import Idealize.ShloMosaic.Lib.Pointwise
public import proofs.«01_k».proof.Proof.RealMath

/-! # What one step of the front call computes, as functions of blocks

A step works through eight units, a unit being one block of 128 query rows and one group of four query heads. The same
computation is printed once for every unit, in the even steps and again in the odd ones. Here it is given once, as
functions of the vectors a unit loads; the functions are built from the printed text of the first unit of an even step. -/

@[expose] public section

set_option maxRecDepth 16384

noncomputable section

namespace Cert.KernelIdeal.Units

open Cert.KernelIdeal Cert.KernelIdeal.Gen Idealize.ShloMosaic

/-- A piece of a buffer over the extended reals. -/
abbrev Pc (S : Shape) (e : EltTy) := View.Piece (Elt Ideal) S e

/-- Lanes of the first head of a pair. -/
abbrev lo : IVec S1x128 1 := k0_pay4

/-- The block-diagonal matrix that sums the lanes of each head, stacked twice. -/
def bd : FVec Ideal S256x128 .bf16 := k0_pay9 k0_pay5 k0_pay6 k0_pay7 k0_pay8

/-- Each head's sum of squares, at every lane of the head. -/
def ssq (t : Vec Ideal S128x128 .f32) : FVec Ideal S128x128 .f32 := k0_pay14 bd t

/-- The head norm and the rotary embedding of a pair of heads. -/
def nrope (g : FVec Ideal S1x128 .f32) (t a b c : Vec Ideal S128x128 .f32) : FVec Ideal S128x128 .bf16 :=
  k0_pay34 g t (ssq t) a b c

/-- Two pairs of query heads, one above the other. -/
def q2 (g : FVec Ideal S1x128 .f32) (t0 t1 a b c : Vec Ideal S128x128 .f32) : FVec Ideal S256x128 .bf16 :=
  k0_pay36 g t1 (ssq t1) (nrope g t0 a b c) (k0_pay35 a) b c

/-- The scores of the first head of both pairs. -/
def sLo (g : FVec Ideal S1x128 .f32) (t0 t1 a b c : Vec Ideal S128x128 .f32) (kt : Vec Ideal S1x64x256 .bf16) :
    FVec Ideal S256x256 .f32 :=
  k0_pay39 g t1 (ssq t1) (nrope g t0 a b c) (k0_pay35 a) b c kt

/-- The scores of the second head of both pairs. -/
def sHi (g : FVec Ideal S1x128 .f32) (t0 t1 a b c : Vec Ideal S128x128 .f32) (kt : Vec Ideal S1x64x256 .bf16) :
    FVec Ideal S256x256 .f32 :=
  k0_pay40 g t1 (ssq t1) (nrope g t0 a b c) (k0_pay35 a) b c kt

/-- The values of a head, once in the first half of the lanes and once in the second. -/
def v2 (vt : Vec Ideal S1x256x128 .bf16) : FVec Ideal S512x128 .bf16 := k0_pay45 lo vt

/-- The gated attention output of the first pair of heads. -/
def mix0 (sl sh : FVec Ideal S256x256 .f32) (vv : FVec Ideal S512x128 .bf16) (k0 k1 : Elt Ideal .f32)
    (b : Vec Ideal S1x128x256 .f32) (ga : Vec Ideal S128x128 .f32) : FVec Ideal S128x128 .bf16 :=
  k0_pay51 lo sh vv (k0_pay49 sl k0 b) (k0_pay50 sl k0 b) k1 b ga

/-- The gated attention output of the second pair of heads. -/
def mix1 (sl sh : FVec Ideal S256x256 .f32) (vv : FVec Ideal S512x128 .bf16) (k0 k1 : Elt Ideal .f32)
    (b : Vec Ideal S1x128x256 .f32) (ga : Vec Ideal S128x128 .f32) : FVec Ideal S128x128 .bf16 :=
  k0_pay64 lo vv (k0_pay56 sl k0 b) (k0_pay57 sl k0 b) (k0_pay61 sh k1 b) (k0_pay62 sh k1 b) (k0_pay63 sh k1 b) ga

/-- The keys of the first head of a pair, transposed. -/
def kst0 (g : FVec Ideal S1x128 .f32) (t a b c : Vec Ideal S128x128 .f32) : FVec Ideal S1x64x128 .bf16 :=
  k0_pay29 g t (ssq t) a b c

/-- The keys of the second head of a pair, transposed. -/
def kst1 (g : FVec Ideal S1x128 .f32) (t a b c : Vec Ideal S128x128 .f32) : FVec Ideal S1x64x128 .bf16 :=
  k0_pay30 g t (ssq t) a b c

/-- The values of the first head of a pair, on both halves of the lanes. -/
def vst0 (t : Vec Ideal S128x128 .f32) : FVec Ideal S1x128x128 .bf16 := k0_pay32 lo t (k0_pay31 t)

/-- The values of the second head of a pair, on both halves of the lanes. -/
def vst1 (t : Vec Ideal S128x128 .f32) : FVec Ideal S1x128x128 .bf16 := k0_pay33 lo t (k0_pay31 t)

/-- A block of 128 rows and 128 columns of the projected rows. -/
def ldz (z : Vec Ideal S256x2560 .f32) (qb j : ℕ) (hq : qb < 2) (hj : j < 20) : Vec Ideal S128x128 .f32 :=
  View.ld z (Rect.unit (s := S256x2560) ![qb * 128, j * 128] ![128, 128] (by
    intro a; fin_cases a <;> simp [S256x2560, Shape.size] <;> omega))

/-- A block of 128 rows of one of the three rotary tables. -/
def ldt (x : Vec Ideal S256x384 .f32) (qb j : ℕ) (hq : qb < 2) (hj : j < 3) : Vec Ideal S128x128 .f32 :=
  View.ld x (Rect.unit (s := S256x384) ![qb * 128, j * 128] ![128, 128] (by
    intro a; fin_cases a <;> simp [S256x384, Shape.size] <;> omega))

/-- One of the sixteen sinks. -/
def lds (x : Vec Ideal S16 .f32) (n : ℕ) (hn : n < 16) : Elt Ideal .f32 :=
  View.ld x (Rect.unit (s := S16) ![n] ![1] (by
    intro a; fin_cases a; simp [S16, Shape.size]; omega)) (Shape.Idx.first (s := ⟨1, ![1]⟩) (by decide))

/-- The keys a unit reads: two blocks of one head's band. -/
def ldk (x : Vec Ideal S4x64x384 .bf16) (qb g : ℕ) (hq : qb < 2) (hg : g < 4) : Vec Ideal S1x64x256 .bf16 :=
  View.ld x (Rect.unit (s := S4x64x384) ![g, 0, qb * 128] ![1, 64, 256] (by
    intro a; fin_cases a <;> simp [S4x64x384, Shape.size] <;> omega))

/-- The values a unit reads: two blocks of one head's band. -/
def ldv (x : Vec Ideal S4x384x128 .bf16) (qb g : ℕ) (hq : qb < 2) (hg : g < 4) : Vec Ideal S1x256x128 .bf16 :=
  View.ld x (Rect.unit (s := S4x384x128) ![g, qb * 128, 0] ![1, 256, 128] (by
    intro a; fin_cases a <;> simp [S4x384x128, Shape.size] <;> omega))

/-- The store of a unit's first pair of heads. -/
def mixP0 (k : Vec Ideal S16 .f32) (tb : Vec Ideal S256x384 .f32) (qg : Vec Ideal S1x128 .f32)
    (z : Vec Ideal S256x2560 .f32) (b : Vec Ideal S1x128x256 .f32) (K : Vec Ideal S4x64x384 .bf16)
    (V : Vec Ideal S4x384x128 .bf16) (qb g : ℕ) (hq : qb < 2) (hg : g < 4) : Pc S256x1024 .bf16 :=
  ⟨Rect.unit (s := S256x1024) ![qb * 128, 2 * g * 128] ![128, 128] (by
      intro a; fin_cases a <;> simp [S256x1024, Shape.size] <;> omega),
    mix0
      (sLo (k0_pay2 qg) (ldz z qb (2 * g) hq (by omega)) (ldz z qb (2 * g + 1) hq (by omega))
        (ldt tb qb 0 hq (by omega)) (ldt tb qb 1 hq (by omega)) (ldt tb qb 2 hq (by omega)) (ldk K qb g hq hg))
      (sHi (k0_pay2 qg) (ldz z qb (2 * g) hq (by omega)) (ldz z qb (2 * g + 1) hq (by omega))
        (ldt tb qb 0 hq (by omega)) (ldt tb qb 1 hq (by omega)) (ldt tb qb 2 hq (by omega)) (ldk K qb g hq hg))
      (v2 (ldv V qb g hq hg)) (lds k (4 * g) (by omega)) (lds k (4 * g + 1) (by omega)) b
      (ldz z qb (12 + 2 * g) hq (by omega))⟩

/-- The store of a unit's second pair of heads. -/
def mixP1 (k : Vec Ideal S16 .f32) (tb : Vec Ideal S256x384 .f32) (qg : Vec Ideal S1x128 .f32)
    (z : Vec Ideal S256x2560 .f32) (b : Vec Ideal S1x128x256 .f32) (K : Vec Ideal S4x64x384 .bf16)
    (V : Vec Ideal S4x384x128 .bf16) (qb g : ℕ) (hq : qb < 2) (hg : g < 4) : Pc S256x1024 .bf16 :=
  ⟨Rect.unit (s := S256x1024) ![qb * 128, (2 * g + 1) * 128] ![128, 128] (by
      intro a; fin_cases a <;> simp [S256x1024, Shape.size] <;> omega),
    mix1
      (sLo (k0_pay2 qg) (ldz z qb (2 * g) hq (by omega)) (ldz z qb (2 * g + 1) hq (by omega))
        (ldt tb qb 0 hq (by omega)) (ldt tb qb 1 hq (by omega)) (ldt tb qb 2 hq (by omega)) (ldk K qb g hq hg))
      (sHi (k0_pay2 qg) (ldz z qb (2 * g) hq (by omega)) (ldz z qb (2 * g + 1) hq (by omega))
        (ldt tb qb 0 hq (by omega)) (ldt tb qb 1 hq (by omega)) (ldt tb qb 2 hq (by omega)) (ldk K qb g hq hg))
      (v2 (ldv V qb g hq hg)) (lds k (4 * g + 2) (by omega)) (lds k (4 * g + 3) (by omega)) b
      (ldz z qb (12 + (2 * g + 1)) hq (by omega))⟩

/-- The stores of one query block, last first. -/
def mixQ (k : Vec Ideal S16 .f32) (tb : Vec Ideal S256x384 .f32) (qg : Vec Ideal S1x128 .f32)
    (z : Vec Ideal S256x2560 .f32) (b : Vec Ideal S1x128x256 .f32) (K : Vec Ideal S4x64x384 .bf16)
    (V : Vec Ideal S4x384x128 .bf16) (qb : ℕ) (hq : qb < 2) : List (Pc S256x1024 .bf16) :=
  [mixP1 k tb qg z b K V qb 3 hq (by decide), mixP0 k tb qg z b K V qb 3 hq (by decide),
   mixP1 k tb qg z b K V qb 2 hq (by decide), mixP0 k tb qg z b K V qb 2 hq (by decide),
   mixP1 k tb qg z b K V qb 1 hq (by decide), mixP0 k tb qg z b K V qb 1 hq (by decide),
   mixP1 k tb qg z b K V qb 0 hq (by decide), mixP0 k tb qg z b K V qb 0 hq (by decide)]

/-- The stores of one query block's keys, last first. -/
def kbL (tb : Vec Ideal S256x384 .f32) (kg : Vec Ideal S1x128 .f32) (z : Vec Ideal S256x2560 .f32)
    (qb : ℕ) (hq : qb < 2) : List (Pc S4x64x384 .bf16) :=
  [⟨Rect.unit (s := S4x64x384) ![3, 0, 128 + qb * 128] ![1, 64, 128] (by
      intro a; fin_cases a <;> simp [S4x64x384, Shape.size]; omega),
    kst1 (k0_pay3 kg) (ldz z qb 9 hq (by omega)) (ldt tb qb 0 hq (by omega)) (ldt tb qb 1 hq (by omega)) (ldt tb qb 2 hq (by omega))⟩,
   ⟨Rect.unit (s := S4x64x384) ![2, 0, 128 + qb * 128] ![1, 64, 128] (by
      intro a; fin_cases a <;> simp [S4x64x384, Shape.size]; omega),
    kst0 (k0_pay3 kg) (ldz z qb 9 hq (by omega)) (ldt tb qb 0 hq (by omega)) (ldt tb qb 1 hq (by omega)) (ldt tb qb 2 hq (by omega))⟩,
   ⟨Rect.unit (s := S4x64x384) ![1, 0, 128 + qb * 128] ![1, 64, 128] (by
      intro a; fin_cases a <;> simp [S4x64x384, Shape.size]; omega),
    kst1 (k0_pay3 kg) (ldz z qb 8 hq (by omega)) (ldt tb qb 0 hq (by omega)) (ldt tb qb 1 hq (by omega)) (ldt tb qb 2 hq (by omega))⟩,
   ⟨Rect.unit (s := S4x64x384) ![0, 0, 128 + qb * 128] ![1, 64, 128] (by
      intro a; fin_cases a <;> simp [S4x64x384, Shape.size]; omega),
    kst0 (k0_pay3 kg) (ldz z qb 8 hq (by omega)) (ldt tb qb 0 hq (by omega)) (ldt tb qb 1 hq (by omega)) (ldt tb qb 2 hq (by omega))⟩]

/-- The stores of one query block's values, last first. -/
def vbL (z : Vec Ideal S256x2560 .f32) (qb : ℕ) (hq : qb < 2) : List (Pc S4x384x128 .bf16) :=
  [⟨Rect.unit (s := S4x384x128) ![3, 128 + qb * 128, 0] ![1, 128, 128] (by
      intro a; fin_cases a <;> simp [S4x384x128, Shape.size]; omega), vst1 (ldz z qb 11 hq (by omega))⟩,
   ⟨Rect.unit (s := S4x384x128) ![2, 128 + qb * 128, 0] ![1, 128, 128] (by
      intro a; fin_cases a <;> simp [S4x384x128, Shape.size]; omega), vst0 (ldz z qb 11 hq (by omega))⟩,
   ⟨Rect.unit (s := S4x384x128) ![1, 128 + qb * 128, 0] ![1, 128, 128] (by
      intro a; fin_cases a <;> simp [S4x384x128, Shape.size]; omega), vst1 (ldz z qb 10 hq (by omega))⟩,
   ⟨Rect.unit (s := S4x384x128) ![0, 128 + qb * 128, 0] ![1, 128, 128] (by
      intro a; fin_cases a <;> simp [S4x384x128, Shape.size]; omega), vst0 (ldz z qb 10 hq (by omega))⟩]

/-- Which of the two band tables a step's first query block takes. -/
def which (n : ℕ) : ℕ := BitVec.toNat (Scalar.indexCast (Scalar.extui (Scalar.cmpi .eq
  (Scalar.select
    (Scalar.andi
      (Scalar.xori
        (Scalar.cmpi .slt
          (Scalar.remsi (Scalar.subi (Scalar.addi (BitVec.ofNat 32 n) 32#32) 2#32)
            (Scalar.select (Scalar.cmpi .eq 16#32 0#32) 1#32 16#32)) 0#32)
        (Scalar.cmpi .slt (Scalar.select (Scalar.cmpi .eq 16#32 0#32) 1#32 16#32) 0#32))
      (Scalar.cmpi .ne
        (Scalar.remsi (Scalar.subi (Scalar.addi (BitVec.ofNat 32 n) 32#32) 2#32)
          (Scalar.select (Scalar.cmpi .eq 16#32 0#32) 1#32 16#32)) 0#32))
    (Scalar.addi
      (Scalar.remsi (Scalar.subi (Scalar.addi (BitVec.ofNat 32 n) 32#32) 2#32)
        (Scalar.select (Scalar.cmpi .eq 16#32 0#32) 1#32 16#32))
      (Scalar.select (Scalar.cmpi .eq 16#32 0#32) 1#32 16#32))
    (Scalar.remsi (Scalar.subi (Scalar.addi (BitVec.ofNat 32 n) 32#32) 2#32)
      (Scalar.select (Scalar.cmpi .eq 16#32 0#32) 1#32 16#32))) 0#32)))

theorem which_eq : ∀ n : Fin 130, which n = if n.val % 16 = 2 then 1 else 0 := by decide +kernel

/-- One of the two band tables. -/
def ldb (x : Vec Ideal S2x128x256 .f32) (n : ℕ) (hn : n < 2) : Vec Ideal S1x128x256 .f32 :=
  View.ld x (Rect.unit (s := S2x128x256) ![n, 0, 0] ![1, 128, 256] (by
    intro a; fin_cases a <;> simp [S2x128x256, Shape.size]; omega))

/-- A row of one vector. -/
def ldg (x : Vec Ideal S1x128 .f32) : Vec Ideal S1x128 .f32 :=
  View.ld x (Rect.unit (s := S1x128) ![0, 0] ![1, 128] (by intro a; fin_cases a <;> simp [S1x128, Shape.size]))

/-- The zeros a sequence's first step stores in place of the block before. -/
def zeroK : List (Pc S4x64x384 .bf16) :=
  [⟨Rect.unit (s := S4x64x384) ![0, 0, 0] ![4, 64, 128] (by intro a; fin_cases a <;> simp [S4x64x384, Shape.size]),
    k0_pay662 (F := Ideal)⟩]
def zeroV : List (Pc S4x384x128 .bf16) :=
  [⟨Rect.unit (s := S4x384x128) ![0, 0, 0] ![4, 128, 128] (by intro a; fin_cases a <;> simp [S4x384x128, Shape.size]),
    k0_pay663 (F := Ideal)⟩]

/-- The keys' band once a step has stored its first query block over `f`, and once it has stored both. -/
abbrev kband0 (v : View sig .tc .vmem S4x64x384 .bf16) (f : v.ty.Contents (Elt Ideal)) (tb : Vec Ideal S256x384 .f32)
    (kg : Vec Ideal S1x128 .f32) (z : Vec Ideal S256x2560 .f32) : Vec Ideal S4x64x384 .bf16 :=
  v.read (Elt Ideal) (v.writes (Elt Ideal) f (kbL tb kg z 0 (by decide)))
abbrev kband1 (v : View sig .tc .vmem S4x64x384 .bf16) (L : List (Pc S4x64x384 .bf16)) (tb : Vec Ideal S256x384 .f32)
    (kg : Vec Ideal S1x128 .f32) (z : Vec Ideal S256x2560 .f32) : Vec Ideal S4x64x384 .bf16 :=
  v.read (Elt Ideal) (v.writes (Elt Ideal) v.junk (kbL tb kg z 1 (by decide) ++ (kbL tb kg z 0 (by decide) ++ L)))

/-- The values' band once a step has stored its first query block over `f`, and once it has stored both. -/
abbrev vband0 (v : View sig .tc .vmem S4x384x128 .bf16) (f : v.ty.Contents (Elt Ideal))
    (z : Vec Ideal S256x2560 .f32) : Vec Ideal S4x384x128 .bf16 :=
  v.read (Elt Ideal) (v.writes (Elt Ideal) f (vbL z 0 (by decide)))
abbrev vband1 (v : View sig .tc .vmem S4x384x128 .bf16) (M : List (Pc S4x384x128 .bf16)) (z : Vec Ideal S256x2560 .f32) : Vec Ideal S4x384x128 .bf16 :=
  v.read (Elt Ideal) (v.writes (Elt Ideal) v.junk (vbL z 1 (by decide) ++ (vbL z 0 (by decide) ++ M)))

/-- All the attention stores of a step, last first. -/
def mixAll (v : View sig .tc .vmem S4x64x384 .bf16) (f : v.ty.Contents (Elt Ideal))
    (w : View sig .tc .vmem S4x384x128 .bf16) (g : w.ty.Contents (Elt Ideal)) (n : Fin 130)
    (L : List (Pc S4x64x384 .bf16)) (M : List (Pc S4x384x128 .bf16))
    (x0 : Vec Ideal S16 .f32) (x3 : Vec Ideal S256x384 .f32) (x4 : Vec Ideal S2x128x256 .f32)
    (x5 x6 : Vec Ideal S1x128 .f32) (z : Vec Ideal S256x2560 .f32) : List (Pc S256x1024 .bf16) :=
  mixQ x0 x3 (ldg x5) z (ldb x4 0 (by decide)) (kband1 v L x3 (ldg x6) z) (vband1 w M z) 1 (by decide)
    ++ mixQ x0 x3 (ldg x5) z (ldb x4 (which n.val) (by rw [which_eq n]; split <;> decide))
        (kband0 v f x3 (ldg x6) z) (vband0 w g z) 0 (by decide)

/-- The keys' stores of a step, last first: the last one carries the last block over to the next step. -/
def kAll (v : View sig .tc .vmem S4x64x384 .bf16) (L : List (Pc S4x64x384 .bf16)) (x3 : Vec Ideal S256x384 .f32) (x6 : Vec Ideal S1x128 .f32)
    (z : Vec Ideal S256x2560 .f32) : List (Pc S4x64x384 .bf16) :=
  ⟨Rect.unit (s := S4x64x384) ![0, 0, 0] ![4, 64, 128] (by intro a; fin_cases a <;> simp [S4x64x384, Shape.size]),
    k0_pay312 (View.ld (kband1 v L x3 (ldg x6) z) (Rect.unit (s := S4x64x384) ![0, 0, 256] ![4, 64, 128]
      (by intro a; fin_cases a <;> simp [S4x64x384, Shape.size])))⟩
    :: (kbL x3 (ldg x6) z 1 (by decide) ++ (kbL x3 (ldg x6) z 0 (by decide) ++ L))

/-- The values' stores of a step, last first. -/
def vAll (w : View sig .tc .vmem S4x384x128 .bf16) (M : List (Pc S4x384x128 .bf16)) (z : Vec Ideal S256x2560 .f32) : List (Pc S4x384x128 .bf16) :=
  ⟨Rect.unit (s := S4x384x128) ![0, 0, 0] ![4, 128, 128] (by intro a; fin_cases a <;> simp [S4x384x128, Shape.size]),
    k0_pay313 (View.ld (vband1 w M z) (Rect.unit (s := S4x384x128) ![0, 256, 0] ![4, 128, 128]
      (by intro a; fin_cases a <;> simp [S4x384x128, Shape.size])))⟩
    :: (vbL z 1 (by decide) ++ (vbL z 0 (by decide) ++ M))

/-- One chunk of 512 columns of the projection. -/
def chunk (h : Vec Ideal S256x2048 .bf16) (w : Vec Ideal S2048x6656 .bf16) (n : ℕ) (hn : n < 13) : FVec Ideal S256x512 .f32 :=
  k0_pay44
    (View.ld h (Rect.unit (s := S256x2048) ![0, 0] ![256, 2048] (by intro a; fin_cases a <;> simp [S256x2048, Shape.size])))
    (View.ld w (Rect.unit (s := S2048x6656) ![0, n * 512] ![2048, 512]
      (by intro a; fin_cases a <;> simp [S2048x6656, Shape.size]; omega)))

/-- One chunk of 512 columns of the projection, as the columns of the convolution have it. -/
def chunk' (h : Vec Ideal S256x2048 .bf16) (w : Vec Ideal S2048x6656 .bf16) (n : ℕ) (hn : n < 13) : FVec Ideal S256x512 .f32 :=
  k0_pay188
    (View.ld h (Rect.unit (s := S256x2048) ![0, 0] ![256, 2048] (by intro a; fin_cases a <;> simp [S256x2048, Shape.size])))
    (View.ld w (Rect.unit (s := S2048x6656) ![0, n * 512] ![2048, 512]
      (by intro a; fin_cases a <;> simp [S2048x6656, Shape.size]; omega)))

/-- The store of one chunk of the attention's columns. -/
def zP (h : Vec Ideal S256x2048 .bf16) (w : Vec Ideal S2048x6656 .bf16) (n : ℕ) (hn : n < 5) : Pc S256x2560 .f32 :=
  ⟨Rect.unit (s := S256x2560) ![0, n * 512] ![256, 512] (by
    intro a; fin_cases a <;> simp [S256x2560, Shape.size]; omega), chunk h w n (by omega)⟩

/-- The store of one chunk of the convolution's columns. -/
def cP (h : Vec Ideal S256x2048 .bf16) (w : Vec Ideal S2048x6656 .bf16) (n : ℕ) (hn : n < 8) : Pc S256x4096 .f32 :=
  ⟨Rect.unit (s := S256x4096) ![0, n * 512] ![256, 512] (by
    intro a; fin_cases a <;> simp [S256x4096, Shape.size]; omega), chunk' h w (5 + n) (by omega)⟩

def zAll (h : Vec Ideal S256x2048 .bf16) (w : Vec Ideal S2048x6656 .bf16) : List (Pc S256x2560 .f32) :=
  [zP h w 4 (by decide), zP h w 3 (by decide), zP h w 2 (by decide), zP h w 1 (by decide), zP h w 0 (by decide)]

def cAll (h : Vec Ideal S256x2048 .bf16) (w : Vec Ideal S2048x6656 .bf16) : List (Pc S256x4096 .f32) :=
  [cP h w 7 (by decide), cP h w 6 (by decide), cP h w 5 (by decide), cP h w 4 (by decide), cP h w 3 (by decide),
   cP h w 2 (by decide), cP h w 1 (by decide), cP h w 0 (by decide)]

/-- The store of 32 rows of the normed block. -/
def nP (x : Vec Ideal S256x2048 .f32) (n : ℕ) (hn : n < 8) : Pc S256x2048 .bf16 :=
  ⟨Rect.unit (s := S256x2048) ![n * 32, 0] ![32, 2048] (by
    intro a; fin_cases a <;> simp [S256x2048, Shape.size]; omega),
   k0_pay318 (View.ld x (Rect.unit (s := S256x2048) ![n * 32, 0] ![32, 2048] (by
    intro a; fin_cases a <;> simp [S256x2048, Shape.size]; omega)))⟩

def nAll (x : Vec Ideal S256x2048 .f32) : List (Pc S256x2048 .bf16) :=
  [nP x 7 (by decide), nP x 6 (by decide), nP x 5 (by decide), nP x 4 (by decide), nP x 3 (by decide),
   nP x 2 (by decide), nP x 1 (by decide), nP x 0 (by decide)]

end Cert.KernelIdeal.Units
-- ==== Proof.Spec.lean ====
module

public import proofs.«01_k».proof.Proof.RealMath

/-! # What both programs compute, over the real numbers

Tokens, columns, heads and lanes are natural numbers. `Z n j` is column `j` of token `n`'s projected row; the first 1024
columns are the queries of 16 heads of 64, the next 256 the keys of 4 heads, the next 256 their values, the next 1024 the
gate. A sequence has 4096 tokens, a block 128. -/

@[expose] public section

noncomputable section

namespace Cert.Spec

open Cert.RealMath

/-- The sum of the squares of head `h`'s lanes. -/
def hssq (z : ℕ → ℝ) (h : ℕ) : ℝ := ∑ d : Fin 64, z (64 * h + d.val) * z (64 * h + d.val)

/-- Head `h` normed, with the gain `G`. -/
def hnorm (z G : ℕ → ℝ) (h d : ℕ) : ℝ := z (64 * h + d) * rms (hssq z h) 64 * G d

/-- The rotary embedding: lane `d < 8` is rotated against lane `d + 8`, lanes from 16 on stay. -/
def rot (cs sn y : ℕ → ℝ) (d : ℕ) : ℝ :=
  if d < 8 then y d * cs d - y (d + 8) * sn d
  else if d < 16 then y d * cs (d - 8) + y (d - 8) * sn (d - 8)
  else y d

theorem rot_smul (cs sn y : ℕ → ℝ) (k : ℝ) (d : ℕ) : rot cs sn (fun d => k * y d) d = k * rot cs sn y d := by
  unfold rot; split_ifs <;> ring

/-- The inputs of the attention. -/
structure Par where
  /-- the projected rows -/
  Z : ℕ → ℕ → ℝ
  /-- the gain of the queries -/
  Gq : ℕ → ℝ
  /-- the gain of the keys -/
  Gk : ℕ → ℝ
  /-- the cosines, by position and frequency -/
  cs : ℕ → ℕ → ℝ
  /-- the sines, by position and frequency -/
  sn : ℕ → ℕ → ℝ
  /-- the sinks, by head -/
  a : ℕ → ℝ

variable (P : Par)

/-- Lane `d` of query head `h` of token `n`. -/
def Par.Q (n h d : ℕ) : ℝ := rot (P.cs (n % 4096)) (P.sn (n % 4096)) (hnorm (P.Z n) P.Gq h) d

/-- Lane `d` of key head `g` of token `n`. -/
def Par.K (n g d : ℕ) : ℝ := rot (P.cs (n % 4096)) (P.sn (n % 4096)) (hnorm (P.Z n) P.Gk (16 + g)) d

/-- Lane `d` of value head `g` of token `n`. -/
def Par.V (n g d : ℕ) : ℝ := P.Z n (1280 + 64 * g + d)

/-- The keys of the block before (nothing before a sequence's first block) and of token `n`'s own block. -/
def Par.kb (n g c d : ℕ) : ℝ := if n % 4096 < 128 ∧ c < 128 then 0 else P.K (n - n % 128 + c - 128) g d

/-- The values of the same tokens. -/
def Par.vb (n g c d : ℕ) : ℝ := if n % 4096 < 128 ∧ c < 128 then 0 else P.V (n - n % 128 + c - 128) g d

/-- The columns token `n` attends to. -/
def band (n : ℕ) (c : Fin 256) : Prop := n % 128 < c.val ∧ c.val ≤ n % 128 + 128 ∧ (128 ≤ n % 4096 ∨ 128 ≤ c.val)

instance (n : ℕ) : DecidablePred (band n) := fun c => by unfold band; infer_instance

/-- The score of token `n`'s head `h` at column `c`. -/
def Par.S (n h : ℕ) (c : Fin 256) : ℝ := (∑ d : Fin 64, P.Q n h d.val * P.kb n (h / 4) c.val d.val) / 8

/-- Column `j` of token `n`'s gated attention. -/
def Par.Y (n j : ℕ) : ℝ :=
  att (band n) (P.S n (j / 64)) (P.a (j / 64)) (fun c => P.vb n (j / 64 / 4) c.val (j % 64)) * silu (P.Z n (1536 + j))

end Cert.Spec
-- ==== Proof.Reads.lean ====
module

public import proofs.«01_k».proof.Proof.Units
public import proofs.«01_k».proof.Proof.Spec

/-! # The units read at an index -/

@[expose] public section

set_option maxRecDepth 16384

noncomputable section

namespace Cert.KernelIdeal.Units

open Cert.KernelIdeal Cert.KernelIdeal.Gen Idealize.ShloMosaic Cert.RealMath Cert.Spec

theorem bd_apply (j : Fin 256) (l : Fin 128) : bd (ix2 j l) = if (j.val % 128) / 64 = l.val / 64 then 1 else 0 := by
  pointwise [bd, k0_pay9, k0_pay5, k0_pay6, k0_pay7, k0_pay8]
  generalize hA : Scalar.select _ _ (IntOp.divsi ArithUnit.vector (Scalar.select _ _ _) 64#32) = A
  have eA : A = BitVec.ofNat 32 (j.val % 128 / 64) := by
    rw [← hA]; clear hA; revert j; decide +kernel
  generalize hB : Scalar.select _ _ (IntOp.divsi ArithUnit.vector (BitVec.ofNat 32 l.val) 64#32) = B
  have eB : B = BitVec.ofNat 32 (l.val / 64) := by
    rw [← hB]; clear hB; revert l; decide +kernel
  rw [eA, eB]
  have h : ∀ a b : Fin 2, Scalar.select (IntOp.cmpi CmpIPredicate.eq (BitVec.ofNat 32 a.val) (BitVec.ofNat 32 b.val)) (1 : EReal) 0
      = if a.val = b.val then 1 else 0 := by
    intro a b
    have : IntOp.cmpi CmpIPredicate.eq (BitVec.ofNat 32 a.val) (BitVec.ofNat 32 b.val) = if a.val = b.val then 1 else 0 := by
      revert a b; decide +kernel
    rw [this]; split <;> rfl
  exact h ⟨j.val % 128 / 64, by omega⟩ ⟨l.val / 64, by omega⟩

theorem q2_lo (g : FVec Ideal S1x128 .f32) (t0 t1 a b c : Vec Ideal S128x128 .f32) (r l : Fin 128) :
    q2 g t0 t1 a b c (ix2 ⟨r.val, by omega⟩ l) = nrope g t0 a b c (ix2 r l) := by
  pointwise [q2, k0_pay36]

theorem q2_hi (g : FVec Ideal S1x128 .f32) (t0 t1 a b c : Vec Ideal S128x128 .f32) (r l : Fin 128) :
    q2 g t0 t1 a b c (ix2 ⟨128 + r.val, by omega⟩ l) = nrope g t1 a b c (ix2 r l) := by
  pointwise [q2, k0_pay36, nrope, k0_pay34, k0_pay35]

theorem sLo_apply (g : FVec Ideal S1x128 .f32) (t0 t1 a b c : Vec Ideal S128x128 .f32) (kt : Vec Ideal S1x64x256 .bf16)
    (r l : Fin 256) :
    sLo g t0 t1 a b c kt (ix2 r l)
      = (∑ x : Fin 64, q2 g t0 t1 a b c (ix2 r ⟨x.val, by omega⟩) * kt (ix3 0 x l))
        + ∑ x : Fin 64, q2 g t0 t1 a b c (ix2 r ⟨64 + x.val, by omega⟩) * 0 := by
  unfold sLo k0_pay39
  change matmul _ _ (q2 g t0 t1 a b c) _ _ _ = _
  pointwise [k0_pay37, k0_pay38]

theorem sHi_apply (g : FVec Ideal S1x128 .f32) (t0 t1 a b c : Vec Ideal S128x128 .f32) (kt : Vec Ideal S1x64x256 .bf16)
    (r l : Fin 256) :
    sHi g t0 t1 a b c kt (ix2 r l)
      = (∑ x : Fin 64, q2 g t0 t1 a b c (ix2 r ⟨x.val, by omega⟩) * 0)
        + ∑ x : Fin 64, q2 g t0 t1 a b c (ix2 r ⟨64 + x.val, by omega⟩) * kt (ix3 0 x l) := by
  unfold sHi k0_pay40
  change matmul _ _ (q2 g t0 t1 a b c) _ _ _ = _
  pointwise [k0_pay37, k0_pay38]

theorem kst0_apply (g : FVec Ideal S1x128 .f32) (t a b c : Vec Ideal S128x128 .f32) (d : Fin 64) (l : Fin 128) :
    kst0 g t a b c (ix3 0 d l) = nrope g t a b c (ix2 l ⟨d.val, by omega⟩) := by
  pointwise [kst0, k0_pay29, k0_pay28, nrope, k0_pay34]

theorem kst1_apply (g : FVec Ideal S1x128 .f32) (t a b c : Vec Ideal S128x128 .f32) (d : Fin 64) (l : Fin 128) :
    kst1 g t a b c (ix3 0 d l) = nrope g t a b c (ix2 l ⟨64 + d.val, by omega⟩) := by
  pointwise [kst1, k0_pay30, k0_pay28, nrope, k0_pay34]

/-- A choice by the lane's half. -/
theorem select_lo {α : Type} (l : Fin 128) (x y : α) :
    Scalar.select (IntOp.cmpi CmpIPredicate.slt (BitVec.ofNat 32 l.val) 64#32) x y = if l.val < 64 then x else y := by
  have h : ∀ l : Fin 128, IntOp.cmpi CmpIPredicate.slt (BitVec.ofNat 32 l.val) 64#32 = if l.val < 64 then 1 else 0 := by
    decide +kernel
  rw [h]; split <;> rfl

theorem vst0_apply (t : Vec Ideal S128x128 .f32) (r l : Fin 128) :
    vst0 t (ix3 0 r l) = t (ix2 r ⟨l.val % 64, by omega⟩) := by
  pointwise [vst0, k0_pay32, k0_pay31, k0_pay4]
  rw [select_lo]
  split <;> exact congrArg (fun x => t (ix2 r x)) (Fin.ext (by dsimp only; omega))

theorem vst1_apply (t : Vec Ideal S128x128 .f32) (r l : Fin 128) :
    vst1 t (ix3 0 r l) = t (ix2 r ⟨64 + l.val % 64, by omega⟩) := by
  pointwise [vst1, k0_pay33, k0_pay31, k0_pay4]
  rw [select_lo]
  split <;> exact congrArg (fun x => t (ix2 r x)) (Fin.ext (by dsimp only; omega))

theorem named_mask : Named.named (F := Ideal) κ "mask" (φ := .f32) 4048155338#32 = (⊥ : EReal) := rfl
theorem named_log2e : Named.named (F := Ideal) κ "log2e" (φ := .f32) 1069066811#32 = ((kap : ℝ) : EReal) := rfl
theorem named_q : Named.named (F := Ideal) κ "q_scale" (φ := .f32) 0x3E38AA3B#32 = ((8⁻¹ * kap : ℝ) : EReal) := rfl

/-- One lane of a head's softmax, weighted values and gate. -/
theorem lane_real (B : Fin 256 → Prop) [DecidablePred B] (S : Fin 256 → ℝ) (a G : ℝ) (v : Fin 256 → ℝ)
    (s b w : Fin 256 → EReal) (k ga : EReal) (hs : ∀ x, s x = ((kap * S x : ℝ) : EReal))
    (hb : ∀ x, b x = if B x then 0 else 1) (hw : ∀ x, w x = ((v x : ℝ) : EReal)) (hk : k = ((a : ℝ) : EReal))
    (hga : ga = ((G / 2 : ℝ) : EReal)) :
    (∑ x, Ideal.exp2 (s x + b x * ⊥ - max (Finset.fold max ⊥ (fun x => s x + b x * ⊥) Finset.univ) (k * ((kap : ℝ) : EReal))) * w x)
      * Ideal.div 1 ((∑ x, Ideal.exp2 (s x + b x * ⊥ - max (Finset.fold max ⊥ (fun x => s x + b x * ⊥) Finset.univ) (k * ((kap : ℝ) : EReal))))
        + Ideal.exp2 (k * ((kap : ℝ) : EReal) - max (Finset.fold max ⊥ (fun x => s x + b x * ⊥) Finset.univ) (k * ((kap : ℝ) : EReal))))
      * (ga + ga * Ideal.tanh ga) = ((att B S a v * silu G : ℝ) : EReal) := by
  have hsc : ∀ x, s x + b x * ⊥ = kscore B S x := fun x => by
    rw [hs, hb]; unfold kscore
    split
    · rw [zero_mul, add_zero]
    · rw [one_mul, EReal.add_bot]
  obtain ⟨f, hf, h1, h2⟩ := kernel_weights B S a (fun x => s x + b x * ⊥) hsc (k * ((kap : ℝ) : EReal))
    (by rw [hk, ← EReal.coe_mul, mul_comm])
  simp only [hw]
  rw [kernel_att B S a v f hf _ h1 _ h2, hga, silu_of_half, EReal.coe_mul]

theorem mix0_apply (sl sh : FVec Ideal S256x256 .f32) (vt : Vec Ideal S1x256x128 .bf16) (k0 k1 : Elt Ideal .f32)
    (b : Vec Ideal S1x128x256 .f32) (ga : Vec Ideal S128x128 .f32) (r l : Fin 128)
    (B : Fin 256 → Prop) [DecidablePred B] (S : Fin 256 → ℝ) (a G : ℝ) (v : Fin 256 → ℝ)
    (hs : ∀ x, (if l.val < 64 then sl (ix2 ⟨r.val, by omega⟩ x) else sh (ix2 ⟨r.val, by omega⟩ x)) = ((kap * S x : ℝ) : EReal))
    (hb : ∀ x, b (ix3 0 r x) = if B x then 0 else 1) (hw : ∀ x, vt (ix3 0 x l) = ((v x : ℝ) : EReal))
    (hk : (if l.val < 64 then k0 else k1) = ((a : ℝ) : EReal))
    (hga : ga (ix2 r l) = ((G / 2 : ℝ) : EReal)) :
    mix0 sl sh (v2 vt) k0 k1 b ga (ix2 r l) = ((att B S a v * silu G : ℝ) : EReal) := by
  pointwise [mix0, k0_pay51, k0_pay50, k0_pay49,k0_pay48,k0_pay47,k0_pay46, k0_pay4, v2, k0_pay45]
  simp only [select_lo, named_mask, named_log2e, ofBits_negInf] at *
  by_cases h : l.val < 64
  · simp only [h, if_true] at *
    simp only [mul_zero, Finset.sum_const_zero, add_zero]
    exact lane_real B S a G v _ _ _ _ _ hs hb hw hk hga
  · simp only [h, if_false] at *
    simp only [mul_zero, Finset.sum_const_zero, zero_add]
    exact lane_real B S a G v _ _ _ _ _ hs hb hw hk hga

theorem mix1_apply (sl sh : FVec Ideal S256x256 .f32) (vt : Vec Ideal S1x256x128 .bf16) (k0 k1 : Elt Ideal .f32)
    (b : Vec Ideal S1x128x256 .f32) (ga : Vec Ideal S128x128 .f32) (r l : Fin 128)
    (B : Fin 256 → Prop) [DecidablePred B] (S : Fin 256 → ℝ) (a G : ℝ) (v : Fin 256 → ℝ)
    (hs : ∀ x, (if l.val < 64 then sl (ix2 ⟨128 + r.val, by omega⟩ x) else sh (ix2 ⟨128 + r.val, by omega⟩ x)) = ((kap * S x : ℝ) : EReal))
    (hb : ∀ x, b (ix3 0 r x) = if B x then 0 else 1) (hw : ∀ x, vt (ix3 0 x l) = ((v x : ℝ) : EReal))
    (hk : (if l.val < 64 then k0 else k1) = ((a : ℝ) : EReal))
    (hga : ga (ix2 r l) = ((G / 2 : ℝ) : EReal)) :
    mix1 sl sh (v2 vt) k0 k1 b ga (ix2 r l) = ((att B S a v * silu G : ℝ) : EReal) := by
  pointwise [mix1, k0_pay64, k0_pay63, k0_pay62, k0_pay61, k0_pay60, k0_pay59, k0_pay58, k0_pay57, k0_pay56,k0_pay55,
    k0_pay54,k0_pay53,k0_pay52, k0_pay4, v2, k0_pay45]
  simp only [select_lo, named_mask, named_log2e, ofBits_negInf] at *
  by_cases h : l.val < 64
  · simp only [h, if_true] at *
    simp only [mul_zero, Finset.sum_const_zero, add_zero]
    exact lane_real B S a G v _ _ _ _ _ hs hb hw hk hga
  · simp only [h, if_false] at *
    simp only [mul_zero, Finset.sum_const_zero, zero_add]
    exact lane_real B S a G v _ _ _ _ _ hs hb hw hk hga

theorem chunk_apply (h : Vec Ideal S256x2048 .bf16) (w : Vec Ideal S2048x6656 .bf16) (n : ℕ) (hn : n < 13) (r : Fin 256)
    (l : Fin 512) :
    chunk h w n hn (ix2 r l) = ∑ k : Fin 2048, h (ix2 r k) * w (ix2 k ⟨n*512+l.val, by omega⟩) := by
  pointwise [chunk, k0_pay44]

theorem chunk'_apply (h : Vec Ideal S256x2048 .bf16) (w : Vec Ideal S2048x6656 .bf16) (n : ℕ) (hn : n < 13) (r : Fin 256)
    (l : Fin 512) :
    chunk' h w n hn (ix2 r l) = ∑ k : Fin 2048, h (ix2 r k) * w (ix2 k ⟨n*512+l.val, by omega⟩) := by
  pointwise [chunk', k0_pay188]

/-- A sum over the lanes of one head out of two. -/
theorem sum_head (f : ℕ → ℝ) (h : ℕ) (hh : h < 2) :
    (∑ x : Fin 128, f x.val * (if x.val % 128 / 64 = h then 1 else 0)) = ∑ d : Fin 64, f (64 * h + d.val) := by
  have e : (∑ x : Fin 128, f x.val * (if x.val % 128 / 64 = h then 1 else 0))
      = ∑ x ∈ Finset.range 128, f x * (if x % 128 / 64 = h then 1 else 0) :=
    Fin.sum_univ_eq_sum_range (fun x => f x * (if x % 128 / 64 = h then 1 else 0)) 128
  have e' : (∑ d : Fin 64, f (64 * h + d.val)) = ∑ d ∈ Finset.range 64, f (64 * h + d) :=
    Fin.sum_univ_eq_sum_range (fun d => f (64 * h + d)) 64
  rw [e, e', show (128 : ℕ) = 64 + 64 from rfl, Finset.sum_range_add]
  have a : ∀ x ∈ Finset.range 64, f x * (if x % 128 / 64 = h then (1:ℝ) else 0) = if h = 0 then f x else 0 := fun x hx => by
    have : x < 64 := Finset.mem_range.mp hx
    have : x % 128 / 64 = 0 := by omega
    rw [this]; rcases (by omega : h = 0 ∨ h = 1) with rfl | rfl <;> simp
  have b : ∀ x ∈ Finset.range 64, f (64 + x) * (if (64 + x) % 128 / 64 = h then (1:ℝ) else 0) = if h = 1 then f (64 + x) else 0 := fun x hx => by
    have : x < 64 := Finset.mem_range.mp hx
    have : (64 + x) % 128 / 64 = 1 := by omega
    rw [this]; rcases (by omega : h = 0 ∨ h = 1) with rfl | rfl <;> simp
  rw [Finset.sum_congr rfl a, Finset.sum_congr rfl b]
  rcases (by omega : h = 0 ∨ h = 1) with rfl | rfl <;> simp

theorem ss_apply (t : Vec Ideal S128x128 .f32) (r l : Fin 128) (z : ℕ → ℝ) (j : ℕ)
    (ht : ∀ l : Fin 128, t (ix2 r l) = ((z (128 * j + l.val) : ℝ) : EReal)) :
    ssq t (ix2 r l) = ((hssq z (2 * j + l.val / 64) : ℝ) : EReal) := by
  pointwise [ssq, k0_pay14]
  simp only [ht, bd_apply]
  have e1 : ∀ x : Fin 128, ((z (128 * j + x.val) : ℝ) : EReal) * ((z (128 * j + x.val) : ℝ) : EReal) * (if x.val % 128 / 64 = l.val / 64 then 1 else 0)
      = ((z (128 * j + x.val) * z (128 * j + x.val) * (if x.val % 128 / 64 = l.val / 64 then 1 else 0) : ℝ) : EReal) := fun x => by
    split <;> push_cast <;> rfl
  have e2 : ∀ x : Fin 128, (((z (128 * j + x.val) : ℝ) : EReal) * ((z (128 * j + x.val) : ℝ) : EReal) -
      ((z (128 * j + x.val) : ℝ) : EReal) * ((z (128 * j + x.val) : ℝ) : EReal)) * (if (128 + x.val) % 128 / 64 = l.val / 64 then 1 else 0)
      = ((0 : ℝ) : EReal) := fun x => by
    rw [← EReal.coe_mul, ← EReal.coe_sub, sub_self, EReal.coe_zero, zero_mul]
  rw [sum_eq_coe _ _ e1, sum_eq_coe _ _ e2, ← EReal.coe_add]
  congr 1
  rw [sum_head (fun x => z (128 * j + x) * z (128 * j + x)) (l.val / 64) (by omega)]
  simp only [Finset.sum_const_zero, add_zero, hssq]
  refine Finset.sum_congr rfl fun d _ => ?_
  rw [show 128 * j + (64 * (l.val / 64) + d.val) = 64 * (2 * j + l.val / 64) + d.val by omega]

theorem hssq_nonneg (z : ℕ → ℝ) (h : ℕ) : 0 ≤ hssq z h := Finset.sum_nonneg fun d _ => mul_self_nonneg _

/-- The three rotary tables, at a position's cosines and sines. -/
def tabA (cs : ℕ → ℝ) (l : ℕ) : ℝ := if l % 64 < 8 then cs (l % 64) else if l % 64 < 16 then cs (l % 64 - 8) else 1
def tabB (sn : ℕ → ℝ) (l : ℕ) : ℝ := if l % 64 < 8 then -(sn (l % 64)) else 0
def tabC (sn : ℕ → ℝ) (l : ℕ) : ℝ := if l % 64 < 8 then 0 else if l % 64 < 16 then sn (l % 64 - 8) else 0

theorem nrope_apply (g : FVec Ideal S1x128 .f32) (t a b c : Vec Ideal S128x128 .f32) (r : Fin 128) (z G cs sn : ℕ → ℝ) (j : ℕ)
    (ht : ∀ l : Fin 128, t (ix2 r l) = ((z (128 * j + l.val) : ℝ) : EReal))
    (hg : ∀ l : Fin 128, g (ix2 0 l) = ((G (l.val % 64) : ℝ) : EReal))
    (ha : ∀ l : Fin 128, a (ix2 r l) = ((tabA cs l.val : ℝ) : EReal))
    (hb : ∀ l : Fin 128, b (ix2 r l) = ((tabB sn l.val : ℝ) : EReal))
    (hc : ∀ l : Fin 128, c (ix2 r l) = ((tabC sn l.val : ℝ) : EReal)) (l : Fin 128) :
    nrope g t a b c (ix2 r l) = ((rot cs sn (hnorm z G (2 * j + l.val / 64)) (l.val % 64) : ℝ) : EReal) := by
  have hy : ∀ l : Fin 128, t (ix2 r l) * Ideal.rsqrt (ssq t (ix2 r l) * Ideal.ofBits FTy.f32 1015021568#32 + Ideal.ofBits FTy.f32 897988541#32)
      * g (ix2 0 l) = ((hnorm z G (2 * j + l.val / 64) (l.val % 64) : ℝ) : EReal) := fun l => by
    rw [ss_apply t r l z j ht, ht, hg, ofBits_sixtyfourth, ofBits_eps, ← EReal.coe_mul, ← EReal.coe_add,
      rsqrt_coe _ (by have := hssq_nonneg z (2 * j + l.val / 64); have := eps_pos; positivity), ← EReal.coe_mul, ← EReal.coe_mul]
    unfold hnorm rms
    rw [show 64 * (2 * j + l.val / 64) + l.val % 64 = 128 * j + l.val by omega, mul_one_div]
  pointwise [nrope, k0_pay34]
  simp only [hy, ha, hb, hc, ← EReal.coe_mul, ← EReal.coe_add]
  congr 1
  unfold tabA tabB tabC rot
  by_cases h1 : l.val % 64 < 8
  · simp only [h1, if_true]
    rw [show (l.val + 128 - 120) % 128 / 64 = l.val / 64 by omega, show (l.val + 128 - 120) % 128 % 64 = l.val % 64 + 8 by omega]
    ring
  · by_cases h2 : l.val % 64 < 16
    · simp only [h1, h2, if_true, if_false]
      rw [show (l.val + 128 - 8) % 128 / 64 = l.val / 64 by omega, show (l.val + 128 - 8) % 128 % 64 = l.val % 64 - 8 by omega]
      ring
    · simp only [h1, h2, if_false]
      ring

theorem norm_apply (x : Vec Ideal S32x2048 .f32) (r : Fin 32) (l : Fin 2048) :
    k0_pay318 x (ix2 r l) = x (ix2 r l) * Ideal.rsqrt (Ideal.div (∑ k, x (ix2 r k) * x (ix2 r k)) ((2048 : ℝ) : EReal) + (eps : EReal)) := by
  rw [← ofBits_2048, ← ofBits_eps]
  pointwise [k0_pay318]

theorem qg_apply (x : Vec Ideal S1x128 .f32) (l : Fin 128) :
    k0_pay2 x (ix2 0 l) = x (ix2 0 l) * ((8⁻¹ * kap : ℝ) : EReal) := by
  rw [← named_q]
  pointwise [k0_pay2]

theorem kg_apply (x : Vec Ideal S1x128 .f32) (l : Fin 128) : k0_pay3 x (ix2 0 l) = x (ix2 0 l) := by
  pointwise [k0_pay3]

theorem carryK_apply (x : Vec Ideal S4x64x128 .bf16) (g : Fin 4) (d : Fin 64) (l : Fin 128) : k0_pay312 x (ix3 g d l) = x (ix3 g d l) := by
  pointwise [k0_pay312]
theorem carryV_apply (x : Vec Ideal S4x128x128 .bf16) (g : Fin 4) (d : Fin 128) (l : Fin 128) : k0_pay313 x (ix3 g d l) = x (ix3 g d l) := by
  pointwise [k0_pay313]
theorem zeroK_apply (g : Fin 4) (d : Fin 64) (l : Fin 128) : k0_pay662 (F := Ideal) (ix3 g d l) = 0 := by
  pointwise [k0_pay662]
theorem zeroV_apply (g : Fin 4) (d : Fin 128) (l : Fin 128) : k0_pay663 (F := Ideal) (ix3 g d l) = 0 := by
  pointwise [k0_pay663]

end Cert.KernelIdeal.Units
-- ==== Proof.Attn.lean ====
module

public import proofs.«01_k».proof.Proof.Reads
public import Idealize.ShloMosaic.Lib.Pipeline.ValueKit.Tiles
public import Idealize.ShloMosaic.Lib.WritesUnit
public import proofs.«01_k».proof.Proof.Gen.KernelIdeal.Frame

/-! # One step's stores, over the real numbers

A step holds 256 tokens, from token `n0` on, `n0` a multiple of 256. Its inputs are real (`Step`); its stores to the keys'
and values' bands, and then to the attention's output, are the real attention of `Spec`. -/

@[expose] public section

set_option maxRecDepth 16384

noncomputable section

namespace Cert.KernelIdeal.Units

open Cert.KernelIdeal Cert.KernelIdeal.Gen Idealize.ShloMosaic Cert.RealMath Cert.Spec

/-- What a list of stores leaves at an index: `v`, if every piece holding the index has `v` there, and the contents
    before have it too where no piece holds the index. -/
theorem read_all {sig : RefSig} {κ : Kind} {sp : Space} {S : Shape} {e : EltTy} (V : View sig κ sp S e)
    (f : V.ty.Contents (Elt Ideal)) (y : S.Idx) (v : Elt Ideal e) :
    ∀ L : List (Pc S e), View.AllAt L y v → ((∃ p ∈ L, y ∈ p.1.set) ∨ V.read (Elt Ideal) f y = v) →
      V.read (Elt Ideal) (V.writes (Elt Ideal) f L) y = v
  | [], _, h => by
    rcases h with ⟨p, hp, _⟩ | h
    · simp at hp
    · exact h
  | p :: L, hL, h => by
    by_cases hm : y ∈ p.1.set
    · obtain ⟨x, hx⟩ := p.1.exists_idx_of_mem hm
      have hx : p.1.emb x = y := hx
      rw [← hx]
      exact (View.read_writes_cons_emb V f p.1 p.2 L x).trans (hL p (by simp) x hx)
    · have : V.read (Elt Ideal) (V.writes (Elt Ideal) f (p :: L)) y = V.read (Elt Ideal) (V.writes (Elt Ideal) f L) y := by
        rw [View.writes_cons, View.read_slice_write_of_not_mem p.1 _ _ _ (by rwa [Rect.map_emb_univ])]
      refine this.trans (read_all V f y v L (fun q hq => hL q (by simp [hq])) ?_)
      rcases h with ⟨q, hq, hyq⟩ | h
      · rcases List.mem_cons.mp hq with rfl | hq'
        · exact absurd hyq hm
        · exact .inl ⟨q, hq', hyq⟩
      · exact .inr h

/-- A store's piece of rank two at an index, at coordinates. -/
theorem tile2 {d : Fin 2 → ℕ} {e : EltTy} (y : (⟨2, d⟩ : Shape).Idx) (o0 o1 n0 n1 : ℕ)
    (w : (⟨2, ![n0, n1]⟩ : Shape).Idx → Elt Ideal e) (v : Elt Ideal e)
    (h : ∀ (a : Fin n0) (b : Fin n1), (y 0).val = o0 + a.val → (y 1).val = o1 + b.val → w (ix2 a b) = v) :
    View.TileAt (S := ⟨2, d⟩) y ![o0, o1] ![n0, n1] w v := fun x hx =>
  (congrArg w (eq_ix2 (n0 := n0) (n1 := n1) x)).trans (h (x 0) (x 1) (hx 0) (hx 1))

/-- A store's piece of rank three at an index, at coordinates. -/
theorem tile3 {d : Fin 3 → ℕ} {e : EltTy} (y : (⟨3, d⟩ : Shape).Idx) (o0 o1 o2 n0 n1 n2 : ℕ)
    (w : (⟨3, ![n0, n1, n2]⟩ : Shape).Idx → Elt Ideal e) (v : Elt Ideal e)
    (h : ∀ (a : Fin n0) (b : Fin n1) (c : Fin n2), (y 0).val = o0 + a.val → (y 1).val = o1 + b.val →
      (y 2).val = o2 + c.val → w (ix3 a b c) = v) :
    View.TileAt (S := ⟨3, d⟩) y ![o0, o1, o2] ![n0, n1, n2] w v := fun x hx =>
  (congrArg w (eq_ix3 (n0 := n0) (n1 := n1) (n2 := n2) x)).trans (h (x 0) (x 1) (x 2) (hx 0) (hx 1) (hx 2))

variable (P : Par)

/-- A step's inputs, real. -/
structure Step (n0 : ℕ) (x0 : Vec Ideal S16 .f32) (x3 : Vec Ideal S256x384 .f32) (x5 x6 : Vec Ideal S1x128 .f32)
    (z : Vec Ideal S256x2560 .f32) : Prop where
  n : n0 % 256 = 0
  z : ∀ (r : Fin 256) (j : Fin 2560),
    z (ix2 r j) = ((if j.val < 1536 then P.Z (n0 + r.val) j.val else P.Z (n0 + r.val) j.val / 2 : ℝ) : EReal)
  a : ∀ (r : Fin 256) (l : Fin 128), x3 (ix2 r ⟨l.val, by omega⟩) = ((tabA (P.cs ((n0 + r.val) % 4096)) l.val : ℝ) : EReal)
  b : ∀ (r : Fin 256) (l : Fin 128), x3 (ix2 r ⟨128 + l.val, by omega⟩) = ((tabB (P.sn ((n0 + r.val) % 4096)) l.val : ℝ) : EReal)
  c : ∀ (r : Fin 256) (l : Fin 128), x3 (ix2 r ⟨256 + l.val, by omega⟩) = ((tabC (P.sn ((n0 + r.val) % 4096)) l.val : ℝ) : EReal)
  q : ∀ l : Fin 128, x5 (ix2 0 l) = ((P.Gq (l.val % 64) : ℝ) : EReal)
  k : ∀ l : Fin 128, x6 (ix2 0 l) = ((P.Gk (l.val % 64) : ℝ) : EReal)
  s : ∀ h : Fin 16, x0 (ix1 h) = ((P.a h.val : ℝ) : EReal)

/-- The keys of the block before a step's tokens and of the step's tokens. -/
def _root_.Cert.Spec.Par.KB (n0 g c d : ℕ) : ℝ := if n0 % 4096 = 0 ∧ c < 128 then 0 else P.K (n0 + c - 128) g d

/-- The values of the same tokens. -/
def _root_.Cert.Spec.Par.VB (n0 g c d : ℕ) : ℝ := if n0 % 4096 = 0 ∧ c < 128 then 0 else P.V (n0 + c - 128) g d

variable {P} {n0 : ℕ} {x0 : Vec Ideal S16 .f32} {x3 : Vec Ideal S256x384 .f32} {x5 x6 : Vec Ideal S1x128 .f32}
  {z : Vec Ideal S256x2560 .f32}

theorem kb_eq (h : n0 % 256 = 0) (qb : ℕ) (hq : qb < 2) (r : Fin 128) (g x d : ℕ) :
    P.kb (n0 + (qb * 128 + r.val)) g x d = P.KB n0 g (qb * 128 + x) d := by
  unfold Par.kb Par.KB
  rw [show n0 + (qb * 128 + r.val) - (n0 + (qb * 128 + r.val)) % 128 + x - 128 = n0 + (qb * 128 + x) - 128 by omega]
  refine if_congr ?_ rfl rfl
  omega

theorem vb_eq (h : n0 % 256 = 0) (qb : ℕ) (hq : qb < 2) (r : Fin 128) (g x d : ℕ) :
    P.vb (n0 + (qb * 128 + r.val)) g x d = P.VB n0 g (qb * 128 + x) d := by
  unfold Par.vb Par.VB
  rw [show n0 + (qb * 128 + r.val) - (n0 + (qb * 128 + r.val)) % 128 + x - 128 = n0 + (qb * 128 + x) - 128 by omega]
  refine if_congr ?_ rfl rfl
  omega

theorem ldz_apply (z : Vec Ideal S256x2560 .f32) (qb j : ℕ) (hq : qb < 2) (hj : j < 20) (r l : Fin 128) :
    ldz z qb j hq hj (ix2 r l) = z (ix2 ⟨qb * 128 + r.val, by omega⟩ ⟨j * 128 + l.val, by omega⟩) := by
  unfold ldz
  exact View.ld_unit_apply_of z _ _ _ _ (ix2 ⟨qb * 128 + r.val, by omega⟩ ⟨j * 128 + l.val, by omega⟩) (by intro a; fin_cases a <;> rfl)

theorem ldt_apply (x : Vec Ideal S256x384 .f32) (qb j : ℕ) (hq : qb < 2) (hj : j < 3) (r l : Fin 128) :
    ldt x qb j hq hj (ix2 r l) = x (ix2 ⟨qb * 128 + r.val, by omega⟩ ⟨j * 128 + l.val, by omega⟩) := by
  unfold ldt
  exact View.ld_unit_apply_of x _ _ _ _ (ix2 ⟨qb * 128 + r.val, by omega⟩ ⟨j * 128 + l.val, by omega⟩) (by intro a; fin_cases a <;> rfl)

theorem lds_apply (x : Vec Ideal S16 .f32) (n : ℕ) (hn : n < 16) : lds x n hn = x (ix1 ⟨n, hn⟩) := by
  unfold lds
  exact View.ld_unit_apply_of x _ _ _ _ (ix1 ⟨n, hn⟩) (by intro a; fin_cases a; rfl)

theorem ldk_apply (x : Vec Ideal S4x64x384 .bf16) (qb g : ℕ) (hq : qb < 2) (hg : g < 4) (d : Fin 64) (c : Fin 256) :
    ldk x qb g hq hg (ix3 0 d c) = x (ix3 ⟨g, hg⟩ d ⟨qb * 128 + c.val, by omega⟩) := by
  unfold ldk
  exact View.ld_unit_apply_of x _ _ _ _ (ix3 ⟨g, hg⟩ d ⟨qb * 128 + c.val, by omega⟩) (by intro a; fin_cases a <;> simp)

theorem ldv_apply (x : Vec Ideal S4x384x128 .bf16) (qb g : ℕ) (hq : qb < 2) (hg : g < 4) (c : Fin 256) (l : Fin 128) :
    ldv x qb g hq hg (ix3 0 c l) = x (ix3 ⟨g, hg⟩ ⟨qb * 128 + c.val, by omega⟩ l) := by
  unfold ldv
  exact View.ld_unit_apply_of x _ _ _ _ (ix3 ⟨g, hg⟩ ⟨qb * 128 + c.val, by omega⟩ l) (by intro a; fin_cases a <;> simp)

theorem ldb_apply (x : Vec Ideal S2x128x256 .f32) (n : ℕ) (hn : n < 2) (r : Fin 128) (c : Fin 256) :
    ldb x n hn (ix3 0 r c) = x (ix3 ⟨n, hn⟩ r c) := by
  unfold ldb
  exact View.ld_unit_apply_of x _ _ _ _ (ix3 ⟨n, hn⟩ r c) (by intro a; fin_cases a <;> simp)

theorem ldg_apply (x : Vec Ideal S1x128 .f32) (l : Fin 128) : ldg x (ix2 0 l) = x (ix2 0 l) := by
  unfold ldg
  exact View.ld_unit_apply_of x _ _ _ _ (ix2 0 l) (by intro a; fin_cases a <;> simp)

namespace Step

variable (H : Step P n0 x0 x3 x5 x6 z)
include H

theorem zlo (qb j : ℕ) (hq : qb < 2) (hj : j < 12) (r l : Fin 128) :
    ldz z qb j hq (by omega) (ix2 r l) = ((P.Z (n0 + (qb * 128 + r.val)) (128 * j + l.val) : ℝ) : EReal) := by
  rw [ldz_apply, H.z, if_pos (by dsimp only; omega)]
  dsimp only
  rw [mul_comm j 128]

theorem zhi (qb j : ℕ) (hq : qb < 2) (hj : j < 20) (h : 12 ≤ j) (r l : Fin 128) :
    ldz z qb j hq hj (ix2 r l) = ((P.Z (n0 + (qb * 128 + r.val)) (128 * j + l.val) / 2 : ℝ) : EReal) := by
  rw [ldz_apply, H.z, if_neg (by dsimp only; omega)]
  dsimp only
  rw [mul_comm j 128]

theorem ta (qb : ℕ) (hq : qb < 2) (r l : Fin 128) :
    ldt x3 qb 0 hq (by decide) (ix2 r l) = ((tabA (P.cs ((n0 + (qb * 128 + r.val)) % 4096)) l.val : ℝ) : EReal) := by
  rw [ldt_apply, ← H.a ⟨qb * 128 + r.val, by omega⟩ l]
  exact congrArg x3 (congrArg₂ ix2 rfl (Fin.ext (by dsimp only; omega)))

theorem tb (qb : ℕ) (hq : qb < 2) (r l : Fin 128) :
    ldt x3 qb 1 hq (by decide) (ix2 r l) = ((tabB (P.sn ((n0 + (qb * 128 + r.val)) % 4096)) l.val : ℝ) : EReal) := by
  rw [ldt_apply, ← H.b ⟨qb * 128 + r.val, by omega⟩ l]

theorem tc (qb : ℕ) (hq : qb < 2) (r l : Fin 128) :
    ldt x3 qb 2 hq (by decide) (ix2 r l) = ((tabC (P.sn ((n0 + (qb * 128 + r.val)) % 4096)) l.val : ℝ) : EReal) := by
  rw [ldt_apply, ← H.c ⟨qb * 128 + r.val, by omega⟩ l]

/-- A pair of key heads. -/
theorem key (qb j : ℕ) (hq : qb < 2) (hj : j < 12) (r l : Fin 128) :
    nrope (k0_pay3 (ldg x6)) (ldz z qb j hq (by omega)) (ldt x3 qb 0 hq (by omega)) (ldt x3 qb 1 hq (by omega))
        (ldt x3 qb 2 hq (by omega)) (ix2 r l)
      = ((rot (P.cs ((n0 + (qb * 128 + r.val)) % 4096)) (P.sn ((n0 + (qb * 128 + r.val)) % 4096))
          (hnorm (P.Z (n0 + (qb * 128 + r.val))) P.Gk (2 * j + l.val / 64)) (l.val % 64) : ℝ) : EReal) :=
  nrope_apply _ _ _ _ _ r (P.Z (n0 + (qb * 128 + r.val))) P.Gk _ _ j (H.zlo qb j hq hj r)
    (fun l => by rw [kg_apply, ldg_apply, H.k]) (H.ta qb hq r) (H.tb qb hq r) (H.tc qb hq r) l

/-- A pair of query heads, scaled. -/
theorem query (qb j : ℕ) (hq : qb < 2) (hj : j < 8) (r l : Fin 128) :
    nrope (k0_pay2 (ldg x5)) (ldz z qb j hq (by omega)) (ldt x3 qb 0 hq (by omega)) (ldt x3 qb 1 hq (by omega))
        (ldt x3 qb 2 hq (by omega)) (ix2 r l)
      = ((8⁻¹ * kap * P.Q (n0 + (qb * 128 + r.val)) (2 * j + l.val / 64) (l.val % 64) : ℝ) : EReal) := by
  rw [nrope_apply _ _ _ _ _ r (P.Z (n0 + (qb * 128 + r.val))) (fun d => P.Gq d * (8⁻¹ * kap)) _ _ j (H.zlo qb j hq (by omega) r)
    (fun l => by rw [qg_apply, ldg_apply, H.q, ← EReal.coe_mul]) (H.ta qb hq r) (H.tb qb hq r) (H.tc qb hq r) l]
  unfold Par.Q
  rw [← rot_smul]
  congr 2
  funext d
  unfold hnorm
  ring

theorem keyP (qb : ℕ) (hq : qb < 2) (g : Fin 4) (d : Fin 64) (c : Fin 384) :
    View.AllAt (kbL x3 (ldg x6) z qb hq) (ix3 g d c) ((P.KB n0 g.val c.val d.val : ℝ) : EReal) := by
  have e : ∀ (r : Fin 128) (j : ℕ) (m : ℕ), c.val = 128 + qb * 128 + r.val → 2 * j + m / 64 = 16 + g.val → m % 64 = d.val →
      rot (P.cs ((n0 + (qb * 128 + r.val)) % 4096)) (P.sn ((n0 + (qb * 128 + r.val)) % 4096))
          (hnorm (P.Z (n0 + (qb * 128 + r.val))) P.Gk (2 * j + m / 64)) (m % 64) = P.KB n0 g.val c.val d.val := by
    intro r j m h1 h2 h3
    unfold Par.KB Par.K
    rw [if_neg (by omega), h2, h3, show n0 + c.val - 128 = n0 + (qb * 128 + r.val) by omega]
  unfold kbL
  refine View.allAt_cons_unit _ _ _ _ _ ?_ (View.allAt_cons_unit _ _ _ _ _ ?_ (View.allAt_cons_unit _ _ _ _ _ ?_
    (View.allAt_cons_unit _ _ _ _ _ ?_ (View.allAt_nil _ _))))
  all_goals
    refine tile3 _ _ _ _ _ _ _ _ _ fun a b r hg hd hc => ?_
    obtain rfl : a = 0 := by omega
    have hg : g.val = _ := hg
    have hd : d.val = _ := hd
    have hc : c.val = _ := hc
    simp at hg hd
    first
      | rw [kst0_apply, H.key qb _ hq (by omega)]
      | rw [kst1_apply, H.key qb _ hq (by omega)]
    exact congrArg _ (e _ _ _ hc (by dsimp only; omega) (by dsimp only; omega))

theorem valP (qb : ℕ) (hq : qb < 2) (g : Fin 4) (c : Fin 384) (l : Fin 128) :
    View.AllAt (vbL z qb hq) (ix3 g c l) ((P.VB n0 g.val c.val (l.val % 64) : ℝ) : EReal) := by
  have e : ∀ (r : Fin 128) (m : ℕ), c.val = 128 + qb * 128 + r.val → m = 1280 + 64 * g.val + l.val % 64 →
      P.Z (n0 + (qb * 128 + r.val)) m = P.VB n0 g.val c.val (l.val % 64) := by
    intro r m h1 h2
    unfold Par.VB Par.V
    rw [if_neg (by omega), h2, show n0 + c.val - 128 = n0 + (qb * 128 + r.val) by omega]
  unfold vbL
  refine View.allAt_cons_unit _ _ _ _ _ ?_ (View.allAt_cons_unit _ _ _ _ _ ?_ (View.allAt_cons_unit _ _ _ _ _ ?_
    (View.allAt_cons_unit _ _ _ _ _ ?_ (View.allAt_nil _ _))))
  all_goals
    refine tile3 _ _ _ _ _ _ _ _ _ fun a b r hg hc hd => ?_
    obtain rfl : a = 0 := by omega
    have hg : g.val = _ := hg
    have hd : l.val = _ := hd
    have hc : c.val = _ := hc
    simp at hg hd
    first
      | rw [vst0_apply, H.zlo qb _ hq (by omega)]
      | rw [vst1_apply, H.zlo qb _ hq (by omega)]
    exact congrArg _ (e _ _ hc (by dsimp only; omega))

omit H in
theorem keyC (qb : ℕ) (hq : qb < 2) (g : Fin 4) (d : Fin 64) (c : Fin 384) (h1 : 128 + qb * 128 ≤ c.val) (h2 : c.val < 256 + qb * 128) :
    ∃ p ∈ kbL x3 (ldg x6) z qb hq, ix3 g d c ∈ p.1.set := by
  have m : ∀ (o : Fin 3 → ℕ) (i), o 0 = g.val → o 1 = 0 → o 2 = 128 + qb * 128 →
      ix3 g d c ∈ (Rect.unit (s := S4x64x384) o ![1, 64, 128] i).set := by
    intro o i a0 a1 a2
    rw [Rect.mem_set_unit]
    intro a
    fin_cases a
    · show o 0 ≤ g.val ∧ g.val < o 0 + 1; omega
    · show o 1 ≤ d.val ∧ d.val < o 1 + 64; omega
    · show o 2 ≤ c.val ∧ c.val < o 2 + 128; omega
  unfold kbL
  fin_cases g
  · exact ⟨_, .tail _ (.tail _ (.tail _ (.head _))), m _ (by intro a; fin_cases a <;> simp [S4x64x384, Shape.size]; omega) rfl rfl rfl⟩
  · exact ⟨_, .tail _ (.tail _ (.head _)), m _ (by intro a; fin_cases a <;> simp [S4x64x384, Shape.size]; omega) rfl rfl rfl⟩
  · exact ⟨_, .tail _ (.head _), m _ (by intro a; fin_cases a <;> simp [S4x64x384, Shape.size]; omega) rfl rfl rfl⟩
  · exact ⟨_, .head _, m _ (by intro a; fin_cases a <;> simp [S4x64x384, Shape.size]; omega) rfl rfl rfl⟩

omit H in
theorem valC (qb : ℕ) (hq : qb < 2) (g : Fin 4) (c : Fin 384) (l : Fin 128) (h1 : 128 + qb * 128 ≤ c.val) (h2 : c.val < 256 + qb * 128) :
    ∃ p ∈ vbL z qb hq, ix3 g c l ∈ p.1.set := by
  have m : ∀ (o : Fin 3 → ℕ) (i), o 0 = g.val → o 1 = 128 + qb * 128 → o 2 = 0 →
      ix3 g c l ∈ (Rect.unit (s := S4x384x128) o ![1, 128, 128] i).set := by
    intro o i a0 a1 a2
    rw [Rect.mem_set_unit]
    intro a
    fin_cases a
    · show o 0 ≤ g.val ∧ g.val < o 0 + 1; omega
    · show o 1 ≤ c.val ∧ c.val < o 1 + 128; omega
    · show o 2 ≤ l.val ∧ l.val < o 2 + 128; omega
  unfold vbL
  fin_cases g
  · exact ⟨_, .tail _ (.tail _ (.tail _ (.head _))), m _ (by intro a; fin_cases a <;> simp [S4x384x128, Shape.size]; omega) rfl rfl rfl⟩
  · exact ⟨_, .tail _ (.tail _ (.head _)), m _ (by intro a; fin_cases a <;> simp [S4x384x128, Shape.size]; omega) rfl rfl rfl⟩
  · exact ⟨_, .tail _ (.head _), m _ (by intro a; fin_cases a <;> simp [S4x384x128, Shape.size]; omega) rfl rfl rfl⟩
  · exact ⟨_, .head _, m _ (by intro a; fin_cases a <;> simp [S4x384x128, Shape.size]; omega) rfl rfl rfl⟩

/-- The score of one head: both programs' scales meet here. -/
theorem score (qb : ℕ) (hq : qb < 2) (r : Fin 128) (h : ℕ) (hh : h < 16) (x : Fin 256) (kt : Vec Ideal S1x64x256 .bf16)
    (hk : ∀ d : Fin 64, kt (ix3 0 d x) = ((P.KB n0 (h / 4) (qb * 128 + x.val) d.val : ℝ) : EReal)) (q : Fin 64 → EReal)
    (hqv : ∀ d : Fin 64, q d = ((8⁻¹ * kap * P.Q (n0 + (qb * 128 + r.val)) h d.val : ℝ) : EReal)) :
    (∑ d, q d * kt (ix3 0 d x)) = ((kap * P.S (n0 + (qb * 128 + r.val)) h x : ℝ) : EReal) := by
  rw [sum_eq_coe _ (fun d : Fin 64 => 8⁻¹ * kap * P.Q (n0 + (qb * 128 + r.val)) h d.val * P.KB n0 (h / 4) (qb * 128 + x.val) d.val)
    (fun d => by rw [hqv, hk, ← EReal.coe_mul])]
  congr 1
  unfold Par.S
  simp only [kb_eq H.n qb hq]
  rw [mul_div_assoc', Finset.mul_sum, Finset.sum_div]
  exact Finset.sum_congr rfl fun d _ => by ring

/-- The scores of a pair of heads, at a row of the upper pair. -/
theorem scoreLo0 (qb g : ℕ) (hq : qb < 2) (hg : g < 4) (r : Fin 128) (x : Fin 256) (kt : Vec Ideal S1x64x256 .bf16)
    (hk : ∀ d : Fin 64, kt (ix3 0 d x) = ((P.KB n0 g (qb * 128 + x.val) d.val : ℝ) : EReal)) :
    sLo (k0_pay2 (ldg x5)) (ldz z qb (2 * g) hq (by omega)) (ldz z qb (2 * g + 1) hq (by omega))
        (ldt x3 qb 0 hq (by omega)) (ldt x3 qb 1 hq (by omega)) (ldt x3 qb 2 hq (by omega)) kt (ix2 ⟨r.val, by omega⟩ x)
      = ((kap * P.S (n0 + (qb * 128 + r.val)) (4 * g) x : ℝ) : EReal) := by
  rw [sLo_apply]
  simp only [mul_zero, Finset.sum_const_zero, add_zero]
  refine H.score qb hq r (4 * g) (by omega) x kt (by rwa [show 4 * g / 4 = g by omega]) _ fun d => ?_
  rw [q2_lo _ _ _ _ _ _ r ⟨d.val, by omega⟩, H.query qb (2 * g) hq (by omega)]
  dsimp only
  rw [show 2 * (2 * g) + d.val / 64 = 4 * g by omega, show d.val % 64 = d.val by omega]

theorem scoreHi0 (qb g : ℕ) (hq : qb < 2) (hg : g < 4) (r : Fin 128) (x : Fin 256) (kt : Vec Ideal S1x64x256 .bf16)
    (hk : ∀ d : Fin 64, kt (ix3 0 d x) = ((P.KB n0 g (qb * 128 + x.val) d.val : ℝ) : EReal)) :
    sHi (k0_pay2 (ldg x5)) (ldz z qb (2 * g) hq (by omega)) (ldz z qb (2 * g + 1) hq (by omega))
        (ldt x3 qb 0 hq (by omega)) (ldt x3 qb 1 hq (by omega)) (ldt x3 qb 2 hq (by omega)) kt (ix2 ⟨r.val, by omega⟩ x)
      = ((kap * P.S (n0 + (qb * 128 + r.val)) (4 * g + 1) x : ℝ) : EReal) := by
  rw [sHi_apply]
  simp only [mul_zero, Finset.sum_const_zero, zero_add]
  refine H.score qb hq r (4 * g + 1) (by omega) x kt (by rwa [show (4 * g + 1) / 4 = g by omega]) _ fun d => ?_
  rw [q2_lo _ _ _ _ _ _ r ⟨64 + d.val, by omega⟩, H.query qb (2 * g) hq (by omega)]
  dsimp only
  rw [show 2 * (2 * g) + (64 + d.val) / 64 = 4 * g + 1 by omega, show (64 + d.val) % 64 = d.val by omega]

/-- The scores of a pair of heads, at a row of the lower pair. -/
theorem scoreLo1 (qb g : ℕ) (hq : qb < 2) (hg : g < 4) (r : Fin 128) (x : Fin 256) (kt : Vec Ideal S1x64x256 .bf16)
    (hk : ∀ d : Fin 64, kt (ix3 0 d x) = ((P.KB n0 g (qb * 128 + x.val) d.val : ℝ) : EReal)) :
    sLo (k0_pay2 (ldg x5)) (ldz z qb (2 * g) hq (by omega)) (ldz z qb (2 * g + 1) hq (by omega))
        (ldt x3 qb 0 hq (by omega)) (ldt x3 qb 1 hq (by omega)) (ldt x3 qb 2 hq (by omega)) kt (ix2 ⟨128 + r.val, by omega⟩ x)
      = ((kap * P.S (n0 + (qb * 128 + r.val)) (4 * g + 2) x : ℝ) : EReal) := by
  rw [sLo_apply]
  simp only [mul_zero, Finset.sum_const_zero, add_zero]
  refine H.score qb hq r (4 * g + 2) (by omega) x kt (by rwa [show (4 * g + 2) / 4 = g by omega]) _ fun d => ?_
  rw [q2_hi _ _ _ _ _ _ r ⟨d.val, by omega⟩, H.query qb (2 * g + 1) hq (by omega)]
  dsimp only
  rw [show 2 * (2 * g + 1) + d.val / 64 = 4 * g + 2 by omega, show d.val % 64 = d.val by omega]

theorem scoreHi1 (qb g : ℕ) (hq : qb < 2) (hg : g < 4) (r : Fin 128) (x : Fin 256) (kt : Vec Ideal S1x64x256 .bf16)
    (hk : ∀ d : Fin 64, kt (ix3 0 d x) = ((P.KB n0 g (qb * 128 + x.val) d.val : ℝ) : EReal)) :
    sHi (k0_pay2 (ldg x5)) (ldz z qb (2 * g) hq (by omega)) (ldz z qb (2 * g + 1) hq (by omega))
        (ldt x3 qb 0 hq (by omega)) (ldt x3 qb 1 hq (by omega)) (ldt x3 qb 2 hq (by omega)) kt (ix2 ⟨128 + r.val, by omega⟩ x)
      = ((kap * P.S (n0 + (qb * 128 + r.val)) (4 * g + 3) x : ℝ) : EReal) := by
  rw [sHi_apply]
  simp only [mul_zero, Finset.sum_const_zero, zero_add]
  refine H.score qb hq r (4 * g + 3) (by omega) x kt (by rwa [show (4 * g + 3) / 4 = g by omega]) _ fun d => ?_
  rw [q2_hi _ _ _ _ _ _ r ⟨64 + d.val, by omega⟩, H.query qb (2 * g + 1) hq (by omega)]
  dsimp only
  rw [show 2 * (2 * g + 1) + (64 + d.val) / 64 = 4 * g + 3 by omega, show (64 + d.val) % 64 = d.val by omega]

variable (b : Vec Ideal S1x128x256 .f32) (K : Vec Ideal S4x64x384 .bf16) (V : Vec Ideal S4x384x128 .bf16) (qb : ℕ) (hq : qb < 2)
  (hb : ∀ (r : Fin 128) (x : Fin 256), b (ix3 0 r x) = if band (n0 + (qb * 128 + r.val)) x then 0 else 1)
  (hK : ∀ (g : Fin 4) (d : Fin 64) (c : Fin 384), qb * 128 ≤ c.val → c.val < qb * 128 + 256 →
    K (ix3 g d c) = ((P.KB n0 g.val c.val d.val : ℝ) : EReal))
  (hV : ∀ (g : Fin 4) (c : Fin 384) (l : Fin 128), qb * 128 ≤ c.val → c.val < qb * 128 + 256 →
    V (ix3 g c l) = ((P.VB n0 g.val c.val (l.val % 64) : ℝ) : EReal))
include hb hK hV

theorem pair0 (g : ℕ) (hg : g < 4) (R : Fin 256) (J : Fin 1024) :
    View.AllAt [mixP0 x0 x3 (ldg x5) z b K V qb g hq hg] (ix2 R J) ((P.Y (n0 + R.val) J.val : ℝ) : EReal) := by
  unfold mixP0
  refine View.allAt_cons_unit _ _ _ _ _ (tile2 _ _ _ _ _ _ _ fun r l hr hl => ?_) (View.allAt_nil _ _)
  have hr : R.val = qb * 128 + r.val := hr
  have hl : J.val = 2 * g * 128 + l.val := hl
  rw [hr, hl]
  have hk : ∀ (x : Fin 256) (d : Fin 64), ldk K qb g hq hg (ix3 0 d x) = ((P.KB n0 g (qb * 128 + x.val) d.val : ℝ) : EReal) :=
    fun x d => by rw [ldk_apply, hK _ _ _ (by dsimp only; omega) (by dsimp only; omega)]
  refine (mix0_apply _ _ _ _ _ _ _ r l (band (n0 + (qb * 128 + r.val))) (P.S (n0 + (qb * 128 + r.val)) (4 * g + l.val / 64))
    (P.a (4 * g + l.val / 64)) (P.Z (n0 + (qb * 128 + r.val)) (1536 + (2 * g * 128 + l.val)))
    (fun x => P.vb (n0 + (qb * 128 + r.val)) g x.val (l.val % 64)) (fun x => ?_) (hb r) (fun x => ?_) ?_ ?_).trans ?_
  · split
    · rw [H.scoreLo0 qb g hq hg r x _ (hk x), show 4 * g + l.val / 64 = 4 * g by omega]
    · rw [H.scoreHi0 qb g hq hg r x _ (hk x), show 4 * g + l.val / 64 = 4 * g + 1 by omega]
  · rw [ldv_apply, hV _ _ _ (by dsimp only; omega) (by dsimp only; omega), vb_eq H.n qb hq]
  · split
    · rw [lds_apply, H.s, show 4 * g + l.val / 64 = 4 * g by omega]
    · rw [lds_apply, H.s, show 4 * g + l.val / 64 = 4 * g + 1 by omega]
  · rw [H.zhi qb _ hq _ (by omega), show 128 * (12 + 2 * g) + l.val = 1536 + (2 * g * 128 + l.val) by omega]
  · unfold Par.Y
    rw [show (2 * g * 128 + l.val) / 64 = 4 * g + l.val / 64 by omega, show (2 * g * 128 + l.val) % 64 = l.val % 64 by omega,
      show (4 * g + l.val / 64) / 4 = g by omega]

theorem pair1 (g : ℕ) (hg : g < 4) (R : Fin 256) (J : Fin 1024) :
    View.AllAt [mixP1 x0 x3 (ldg x5) z b K V qb g hq hg] (ix2 R J) ((P.Y (n0 + R.val) J.val : ℝ) : EReal) := by
  unfold mixP1
  refine View.allAt_cons_unit _ _ _ _ _ (tile2 _ _ _ _ _ _ _ fun r l hr hl => ?_) (View.allAt_nil _ _)
  have hr : R.val = qb * 128 + r.val := hr
  have hl : J.val = (2 * g + 1) * 128 + l.val := hl
  rw [hr, hl]
  have hk : ∀ (x : Fin 256) (d : Fin 64), ldk K qb g hq hg (ix3 0 d x) = ((P.KB n0 g (qb * 128 + x.val) d.val : ℝ) : EReal) :=
    fun x d => by rw [ldk_apply, hK _ _ _ (by dsimp only; omega) (by dsimp only; omega)]
  refine (mix1_apply _ _ _ _ _ _ _ r l (band (n0 + (qb * 128 + r.val))) (P.S (n0 + (qb * 128 + r.val)) (4 * g + 2 + l.val / 64))
    (P.a (4 * g + 2 + l.val / 64)) (P.Z (n0 + (qb * 128 + r.val)) (1536 + ((2 * g + 1) * 128 + l.val)))
    (fun x => P.vb (n0 + (qb * 128 + r.val)) g x.val (l.val % 64)) (fun x => ?_) (hb r) (fun x => ?_) ?_ ?_).trans ?_
  · split
    · rw [H.scoreLo1 qb g hq hg r x _ (hk x), show 4 * g + 2 + l.val / 64 = 4 * g + 2 by omega]
    · rw [H.scoreHi1 qb g hq hg r x _ (hk x), show 4 * g + 2 + l.val / 64 = 4 * g + 3 by omega]
  · rw [ldv_apply, hV _ _ _ (by dsimp only; omega) (by dsimp only; omega), vb_eq H.n qb hq]
  · split
    · rw [lds_apply, H.s, show 4 * g + 2 + l.val / 64 = 4 * g + 2 by omega]
    · rw [lds_apply, H.s, show 4 * g + 2 + l.val / 64 = 4 * g + 3 by omega]
  · rw [H.zhi qb _ hq _ (by omega), show 128 * (12 + (2 * g + 1)) + l.val = 1536 + ((2 * g + 1) * 128 + l.val) by omega]
  · unfold Par.Y
    rw [show ((2 * g + 1) * 128 + l.val) / 64 = 4 * g + 2 + l.val / 64 by omega, show ((2 * g + 1) * 128 + l.val) % 64 = l.val % 64 by omega,
      show (4 * g + 2 + l.val / 64) / 4 = g by omega]

theorem mixQ_all (R : Fin 256) (J : Fin 1024) :
    View.AllAt (mixQ x0 x3 (ldg x5) z b K V qb hq) (ix2 R J) ((P.Y (n0 + R.val) J.val : ℝ) : EReal) := by
  intro p hp
  simp only [mixQ, List.mem_cons, List.not_mem_nil, or_false] at hp
  rcases hp with rfl | rfl | rfl | rfl | rfl | rfl | rfl | rfl
  · exact H.pair1 b K V qb hq hb hK hV 3 _ R J _ (.head _)
  · exact H.pair0 b K V qb hq hb hK hV 3 _ R J _ (.head _)
  · exact H.pair1 b K V qb hq hb hK hV 2 _ R J _ (.head _)
  · exact H.pair0 b K V qb hq hb hK hV 2 _ R J _ (.head _)
  · exact H.pair1 b K V qb hq hb hK hV 1 _ R J _ (.head _)
  · exact H.pair0 b K V qb hq hb hK hV 1 _ R J _ (.head _)
  · exact H.pair1 b K V qb hq hb hK hV 0 _ R J _ (.head _)
  · exact H.pair0 b K V qb hq hb hK hV 0 _ R J _ (.head _)

end Step

theorem allAt_append {S : Shape} {e : EltTy} {y : S.Idx} {v : Elt Ideal e} {L M : List (Pc S e)} (h : View.AllAt L y v)
    (h' : View.AllAt M y v) : View.AllAt (L ++ M) y v := fun p hp =>
  (List.mem_append.mp hp).elim (h p) (h' p)

namespace Step

variable (H : Step P n0 x0 x3 x5 x6 z)
include H

/-- The keys' band once a step has stored its first query block. -/
theorem keys0 (v : View sig .tc .vmem S4x64x384 .bf16) (f : v.ty.Contents (Elt Ideal))
    (hf : ∀ (g : Fin 4) (d : Fin 64) (c : Fin 384), c.val < 128 → v.read (Elt Ideal) f (ix3 g d c) = ((P.KB n0 g.val c.val d.val : ℝ) : EReal))
    (g : Fin 4) (d : Fin 64) (c : Fin 384) (hc : c.val < 256) :
    kband0 v f x3 (ldg x6) z (ix3 g d c) = ((P.KB n0 g.val c.val d.val : ℝ) : EReal) := by
  refine read_all v f _ _ _ (H.keyP 0 (by decide) g d c) ?_
  by_cases h : c.val < 128
  · exact .inr (hf g d c h)
  · exact .inl (keyC 0 (by decide) g d c (by omega) (by omega))

theorem vals0 (v : View sig .tc .vmem S4x384x128 .bf16) (f : v.ty.Contents (Elt Ideal))
    (hf : ∀ (g : Fin 4) (c : Fin 384) (l : Fin 128), c.val < 128 → v.read (Elt Ideal) f (ix3 g c l) = ((P.VB n0 g.val c.val (l.val % 64) : ℝ) : EReal))
    (g : Fin 4) (c : Fin 384) (l : Fin 128) (hc : c.val < 256) :
    vband0 v f z (ix3 g c l) = ((P.VB n0 g.val c.val (l.val % 64) : ℝ) : EReal) := by
  refine read_all v f _ _ _ (H.valP 0 (by decide) g c l) ?_
  by_cases h : c.val < 128
  · exact .inr (hf g c l h)
  · exact .inl (valC 0 (by decide) g c l (by omega) (by omega))

/-- The keys' band once a step has stored both query blocks. -/
theorem keys1 (v : View sig .tc .vmem S4x64x384 .bf16) (L : List (Pc S4x64x384 .bf16)) (g : Fin 4) (d : Fin 64) (c : Fin 384)
    (hL : ∀ w, View.AllAt L (ix3 g d c) w) (hc : 128 ≤ c.val) :
    kband1 v L x3 (ldg x6) z (ix3 g d c) = ((P.KB n0 g.val c.val d.val : ℝ) : EReal) := by
  refine read_all v _ _ _ _ (allAt_append (H.keyP 1 (by decide) g d c) (allAt_append (H.keyP 0 (by decide) g d c) (hL _))) (.inl ?_)
  by_cases h : c.val < 256
  · obtain ⟨p, hp, hy⟩ := keyC (x3 := x3) (x6 := x6) (z := z) 0 (by decide) g d c (by omega) (by omega)
    exact ⟨p, by simp [hp], hy⟩
  · obtain ⟨p, hp, hy⟩ := keyC (x3 := x3) (x6 := x6) (z := z) 1 (by decide) g d c (by omega) (by omega)
    exact ⟨p, by simp [hp], hy⟩

theorem vals1 (v : View sig .tc .vmem S4x384x128 .bf16) (L : List (Pc S4x384x128 .bf16)) (g : Fin 4) (c : Fin 384) (l : Fin 128)
    (hL : ∀ w, View.AllAt L (ix3 g c l) w) (hc : 128 ≤ c.val) :
    vband1 v L z (ix3 g c l) = ((P.VB n0 g.val c.val (l.val % 64) : ℝ) : EReal) := by
  refine read_all v _ _ _ _ (allAt_append (H.valP 1 (by decide) g c l) (allAt_append (H.valP 0 (by decide) g c l) (hL _))) (.inl ?_)
  by_cases h : c.val < 256
  · obtain ⟨p, hp, hy⟩ := valC (z := z) 0 (by decide) g c l (by omega) (by omega)
    exact ⟨p, by simp [hp], hy⟩
  · obtain ⟨p, hp, hy⟩ := valC (z := z) 1 (by decide) g c l (by omega) (by omega)
    exact ⟨p, by simp [hp], hy⟩

omit H in
/-- The first block of zeros holds no index past it. -/
theorem zeroK_at (g : Fin 4) (d : Fin 64) (c : Fin 384) (hc : 128 ≤ c.val) (w : Elt Ideal .bf16) : View.AllAt zeroK (ix3 g d c) w := by
  unfold zeroK
  refine View.allAt_cons_unit _ _ _ _ _ (tile3 _ _ _ _ _ _ _ _ _ fun a b x h0 h1 h2 => ?_) (View.allAt_nil _ _)
  have : c.val = 0 + x.val := h2
  omega

omit H in
theorem zeroV_at (g : Fin 4) (c : Fin 384) (l : Fin 128) (hc : 128 ≤ c.val) (w : Elt Ideal .bf16) : View.AllAt zeroV (ix3 g c l) w := by
  unfold zeroV
  refine View.allAt_cons_unit _ _ _ _ _ (tile3 _ _ _ _ _ _ _ _ _ fun a b x h0 h1 h2 => ?_) (View.allAt_nil _ _)
  have : c.val = 0 + b.val := h1
  omega

/-- The attention a step leaves. -/
theorem mix (v : View sig .tc .vmem S4x64x384 .bf16) (f : v.ty.Contents (Elt Ideal))
    (w : View sig .tc .vmem S4x384x128 .bf16) (g : w.ty.Contents (Elt Ideal)) (n : Fin 130)
    (L : List (Pc S4x64x384 .bf16)) (M : List (Pc S4x384x128 .bf16)) (x4 : Vec Ideal S2x128x256 .f32)
    (hn : n0 % 4096 = 0 ↔ n.val % 16 = 2)
    (hx4 : ∀ (i : Fin 2) (r : Fin 128) (c : Fin 256), x4 (ix3 i r c)
      = if r.val < c.val ∧ c.val ≤ r.val + 128 ∧ (i.val = 0 ∨ 128 ≤ c.val) then 0 else 1)
    (hf : ∀ (g : Fin 4) (d : Fin 64) (c : Fin 384), c.val < 128 → v.read (Elt Ideal) f (ix3 g d c) = ((P.KB n0 g.val c.val d.val : ℝ) : EReal))
    (hg : ∀ (h : Fin 4) (c : Fin 384) (l : Fin 128), c.val < 128 → w.read (Elt Ideal) g (ix3 h c l) = ((P.VB n0 h.val c.val (l.val % 64) : ℝ) : EReal))
    (hL : ∀ (g : Fin 4) (d : Fin 64) (c : Fin 384), 128 ≤ c.val → ∀ w, View.AllAt L (ix3 g d c) w)
    (hM : ∀ (g : Fin 4) (c : Fin 384) (l : Fin 128), 128 ≤ c.val → ∀ w, View.AllAt M (ix3 g c l) w)
    (R : Fin 256) (J : Fin 1024) :
    View.AllAt (mixAll v f w g n L M x0 x3 x4 x5 x6 z) (ix2 R J) ((P.Y (n0 + R.val) J.val : ℝ) : EReal) := by
  have hz := H.n
  unfold mixAll
  refine allAt_append
    (H.mixQ_all _ _ _ 1 (by decide) (fun r x => ?_) (fun g d c h1 h2 => H.keys1 v L g d c (hL g d c (by omega)) (by omega))
      (fun g c l h1 h2 => H.vals1 w M g c l (hM g c l (by omega)) (by omega)) R J)
    (H.mixQ_all _ _ _ 0 (by decide) (fun r x => ?_) (fun g d c h1 h2 => H.keys0 v f hf g d c (by omega))
      (fun g' c l h1 h2 => H.vals0 w g hg g' c l (by omega)) R J)
  · rw [ldb_apply, hx4]
    refine if_congr ?_ rfl rfl
    unfold band
    dsimp only
    omega
  · rw [ldb_apply, hx4]
    refine if_congr ?_ rfl rfl
    unfold band
    have := which_eq n
    dsimp only
    by_cases h : n.val % 16 = 2
    · rw [if_pos h] at this; have := hn.mpr h; omega
    · rw [if_neg h] at this; have := mt hn.mp h; omega

end Step

theorem zeroK_read (v : View sig .tc .vmem S4x64x384 .bf16) (g : Fin 4) (d : Fin 64) (c : Fin 384) (hc : c.val < 128) :
    v.read (Elt Ideal) (v.writes (Elt Ideal) v.junk zeroK) (ix3 g d c) = 0 := by
  unfold zeroK
  refine (View.read_writes_cons_unit_of_mem v _ _ _ _ _ (ix3 (n0 := 4) (n1 := 64) (n2 := 128) g d ⟨c.val, hc⟩) rfl
    (by intro a; fin_cases a <;> simp)).trans ?_
  exact zeroK_apply _ _ _

theorem zeroV_read (v : View sig .tc .vmem S4x384x128 .bf16) (g : Fin 4) (c : Fin 384) (l : Fin 128) (hc : c.val < 128) :
    v.read (Elt Ideal) (v.writes (Elt Ideal) v.junk zeroV) (ix3 g c l) = 0 := by
  unfold zeroV
  refine (View.read_writes_cons_unit_of_mem v _ _ _ _ _ (ix3 (n0 := 4) (n1 := 128) (n2 := 128) g ⟨c.val, hc⟩ l) rfl
    (by intro a; fin_cases a <;> simp)).trans ?_
  exact zeroV_apply _ _ _

/-- The keys a step carries over: those of its last 128 tokens. -/
theorem Step.carryK (H : Step P n0 x0 x3 x5 x6 z) (v u : View sig .tc .vmem S4x64x384 .bf16) (f : u.ty.Contents (Elt Ideal))
    (L : List (Pc S4x64x384 .bf16))
    (hL : ∀ (g : Fin 4) (d : Fin 64) (c : Fin 384), 128 ≤ c.val → ∀ w, View.AllAt L (ix3 g d c) w)
    (g : Fin 4) (d : Fin 64) (c : Fin 384) (hc : c.val < 128) :
    u.read (Elt Ideal) (u.writes (Elt Ideal) f (kAll v L x3 x6 z)) (ix3 g d c) = ((P.K (n0 + 128 + c.val) g.val d.val : ℝ) : EReal) := by
  unfold kAll
  refine (View.read_writes_cons_unit_of_mem u f _ _ _ _ (ix3 (n0 := 4) (n1 := 64) (n2 := 128) g d ⟨c.val, hc⟩) rfl
    (by intro a; fin_cases a <;> simp)).trans ?_
  rw [carryK_apply]
  refine (View.ld_unit_apply_of _ _ _ _ _ (ix3 g d ⟨256 + c.val, by omega⟩) (by intro a; fin_cases a <;> simp)).trans ?_
  rw [H.keys1 v L g d _ (hL _ _ _ (by dsimp only; omega)) (by dsimp only; omega)]
  unfold Par.KB
  dsimp only
  rw [if_neg (by omega), show n0 + (256 + c.val) - 128 = n0 + 128 + c.val by omega]

/-- The values a step carries over. -/
theorem Step.carryV (H : Step P n0 x0 x3 x5 x6 z) (v u : View sig .tc .vmem S4x384x128 .bf16) (f : u.ty.Contents (Elt Ideal))
    (L : List (Pc S4x384x128 .bf16))
    (hL : ∀ (g : Fin 4) (c : Fin 384) (l : Fin 128), 128 ≤ c.val → ∀ w, View.AllAt L (ix3 g c l) w)
    (g : Fin 4) (c : Fin 384) (l : Fin 128) (hc : c.val < 128) :
    u.read (Elt Ideal) (u.writes (Elt Ideal) f (vAll v L z)) (ix3 g c l) = ((P.V (n0 + 128 + c.val) g.val (l.val % 64) : ℝ) : EReal) := by
  unfold vAll
  refine (View.read_writes_cons_unit_of_mem u f _ _ _ _ (ix3 (n0 := 4) (n1 := 128) (n2 := 128) g ⟨c.val, hc⟩ l) rfl
    (by intro a; fin_cases a <;> simp)).trans ?_
  rw [carryV_apply]
  refine (View.ld_unit_apply_of _ _ _ _ _ (ix3 g ⟨256 + c.val, by omega⟩ l) (by intro a; fin_cases a <;> simp)).trans ?_
  rw [H.vals1 v L g _ l (hL _ _ _ (by dsimp only; omega)) (by dsimp only; omega)]
  unfold Par.VB
  dsimp only
  rw [if_neg (by omega), show n0 + (256 + c.val) - 128 = n0 + 128 + c.val by omega]

/-! ## The projection and the norm -/

/-- A row of a normed block. -/
def nrow (x : Fin 2048 → EReal) (k : Fin 2048) : EReal :=
  x k * Ideal.rsqrt (Ideal.div (∑ i, x i * x i) ((2048 : ℝ) : EReal) + (eps : EReal))

theorem zAll_all (h : Vec Ideal S256x2048 .bf16) (w : Vec Ideal S2048x6656 .bf16) (r : Fin 256) (j : Fin 2560) :
    View.AllAt (zAll h w) (ix2 r j) (∑ k : Fin 2048, h (ix2 r k) * w (ix2 k ⟨j.val, by omega⟩)) := by
  have one : ∀ n hn, View.AllAt [zP h w n hn] (ix2 r j) (∑ k : Fin 2048, h (ix2 r k) * w (ix2 k ⟨j.val, by omega⟩)) := by
    intro n hn
    unfold zP
    refine View.allAt_cons_unit _ _ _ _ _ (tile2 _ _ _ _ _ _ _ fun a b h0 h1 => ?_) (View.allAt_nil _ _)
    have h0 : r.val = 0 + a.val := h0
    have h1 : j.val = n * 512 + b.val := h1
    obtain rfl : r = a := Fin.ext (by omega)
    rw [chunk_apply]
    refine Finset.sum_congr rfl fun k _ => ?_
    rw [show (⟨n * 512 + b.val, by omega⟩ : Fin 6656) = ⟨j.val, by omega⟩ from Fin.ext h1.symm]
  intro p hp
  simp only [zAll, List.mem_cons, List.not_mem_nil, or_false] at hp
  rcases hp with rfl | rfl | rfl | rfl | rfl <;> exact one _ _ _ (.head _)

theorem cAll_all (h : Vec Ideal S256x2048 .bf16) (w : Vec Ideal S2048x6656 .bf16) (r : Fin 256) (j : Fin 4096) :
    View.AllAt (cAll h w) (ix2 r j) (∑ k : Fin 2048, h (ix2 r k) * w (ix2 k ⟨2560 + j.val, by omega⟩)) := by
  have one : ∀ n hn, View.AllAt [cP h w n hn] (ix2 r j) (∑ k : Fin 2048, h (ix2 r k) * w (ix2 k ⟨2560 + j.val, by omega⟩)) := by
    intro n hn
    unfold cP
    refine View.allAt_cons_unit _ _ _ _ _ (tile2 _ _ _ _ _ _ _ fun a b h0 h1 => ?_) (View.allAt_nil _ _)
    have h0 : r.val = 0 + a.val := h0
    have h1 : j.val = n * 512 + b.val := h1
    obtain rfl : r = a := Fin.ext (by omega)
    rw [chunk'_apply]
    refine Finset.sum_congr rfl fun k _ => ?_
    rw [show (⟨(5 + n) * 512 + b.val, by omega⟩ : Fin 6656) = ⟨2560 + j.val, by omega⟩ from Fin.ext (by dsimp only; omega)]
  intro p hp
  simp only [cAll, List.mem_cons, List.not_mem_nil, or_false] at hp
  rcases hp with rfl | rfl | rfl | rfl | rfl | rfl | rfl | rfl <;> exact one _ _ _ (.head _)

theorem nAll_all (x : Vec Ideal S256x2048 .f32) (r : Fin 256) (k : Fin 2048) :
    View.AllAt (nAll x) (ix2 r k) (nrow (fun i => x (ix2 r i)) k) := by
  have one : ∀ n hn, View.AllAt [nP x n hn] (ix2 r k) (nrow (fun i => x (ix2 r i)) k) := by
    intro n hn
    unfold nP
    refine View.allAt_cons_unit _ _ _ _ _ (tile2 _ _ _ _ _ _ _ fun a b h0 h1 => ?_) (View.allAt_nil _ _)
    have h0 : r.val = n * 32 + a.val := h0
    have h1 : k.val = 0 + b.val := h1
    obtain rfl : k = b := Fin.ext (by omega)
    rw [norm_apply]
    have e : ∀ i, View.ld x (Rect.unit (s := S256x2048) ![n * 32, 0] ![32, 2048] (by
        intro a; fin_cases a <;> simp [S256x2048, Shape.size]; omega)) (ix2 (n0 := 32) (n1 := 2048) a i) = x (ix2 r i) := fun i =>
      View.ld_unit_apply_of x _ _ _ _ (ix2 r i) (by intro q; fin_cases q <;> simp [h0])
    unfold nrow
    simp only [e]
  intro p hp
  simp only [nAll, List.mem_cons, List.not_mem_nil, or_false] at hp
  rcases hp with rfl | rfl | rfl | rfl | rfl | rfl | rfl | rfl <;> exact one _ _ _ (.head _)

/-! ## The stores cover their buffers -/

theorem mixAll_cover (v : View sig .tc .vmem S4x64x384 .bf16) (f : v.ty.Contents (Elt Ideal))
    (w : View sig .tc .vmem S4x384x128 .bf16) (g : w.ty.Contents (Elt Ideal)) (n : Fin 130)
    (L : List (Pc S4x64x384 .bf16)) (M : List (Pc S4x384x128 .bf16))
    (x0 : Vec Ideal S16 .f32) (x3 : Vec Ideal S256x384 .f32) (x4 : Vec Ideal S2x128x256 .f32)
    (x5 x6 : Vec Ideal S1x128 .f32) (z : Vec Ideal S256x2560 .f32) (y : S256x1024.Idx) :
    ∃ p ∈ mixAll v f w g n L M x0 x3 x4 x5 x6 z, y ∈ p.1.set :=
  View.cover_of_tiledL (mixAll v f w g n L M x0 x3 x4 x5 x6 z) S128x128.size (by sl_kernel_rfl) y

theorem zAll_cover (h : Vec Ideal S256x2048 .bf16) (w : Vec Ideal S2048x6656 .bf16) (y : S256x2560.Idx) :
    ∃ p ∈ zAll h w, y ∈ p.1.set :=
  View.cover_of_tiledL (zAll h w) S256x512.size (by sl_kernel_rfl) y

theorem cAll_cover (h : Vec Ideal S256x2048 .bf16) (w : Vec Ideal S2048x6656 .bf16) (y : S256x4096.Idx) :
    ∃ p ∈ cAll h w, y ∈ p.1.set :=
  View.cover_of_tiledL (cAll h w) S256x512.size (by sl_kernel_rfl) y

theorem nAll_cover (x : Vec Ideal S256x2048 .f32) (y : S256x2048.Idx) : ∃ p ∈ nAll x, y ∈ p.1.set :=
  View.cover_of_tiledL (nAll x) S32x2048.size (by sl_kernel_rfl) y

end Cert.KernelIdeal.Units
-- ==== Proof.PiecesA.lean ====
module

public import proofs.«01_k».proof.Proof.Gen.KernelIdeal.Frame
public import proofs.«01_k».proof.Proof.Units

/-! # The stores of a step of case A, piece by piece -/

@[expose] public section

set_option maxRecDepth 16384

noncomputable section

namespace Cert.KernelIdeal.Units

open Cert.KernelIdeal Cert.KernelIdeal.Gen Idealize.ShloMosaic Idealize.ShloMosaic.TcCoe

/-- The normed block. -/
theorem norm_A (c : Dev nD) (i : grid0.Coords) (arg1 : Memref sig .tc .smem S16 .f32) (harg1 : arg1.IsWhole) (arg2 : Memref sig .tc .vmem S256x2048 .f32) (harg2 : arg2.IsWhole) (arg3 : Memref sig .tc .vmem S2048x6656 .bf16) (harg3 : arg3.IsWhole) (arg4 : Memref sig .tc .vmem S256x384 .f32) (harg4 : arg4.IsWhole) (arg5 : Memref sig .tc .vmem S2x128x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S256x1024 .bf16) (harg8 : arg8.IsWhole) (arg9 : Memref sig .tc .vmem S256x4096 .f32) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2560 .f32) (harg12 : arg12.IsWhole) (arg13 : Memref sig .tc .vmem S256x2560 .f32) (harg13 : arg13.IsWhole) (arg14 : Memref sig .tc .vmem S4x64x384 .bf16) (harg14 : arg14.IsWhole) (arg15 : Memref sig .tc .vmem S4x384x128 .bf16) (harg15 : arg15.IsWhole) (hc0 : cond0_0 i) (hc1 : ¬cond0_1 i) (hc2 : cond0_2 i) (hc3 : ¬cond0_3 i)
    (x0 : Vec Ideal S16 .f32) (x1 : Vec Ideal S256x2048 .f32) (x2 : Vec Ideal S2048x6656 .bf16) (x3 : Vec Ideal S256x384 .f32) (x4 : Vec Ideal S2x128x256 .f32) (x5 : Vec Ideal S1x128 .f32) (x6 : Vec Ideal S1x128 .f32) :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6).2.2.1
      = nAll (arg2.view.read (Elt Ideal) (harg2.unread x1)) := by
  sl_kernel_rfl

end Cert.KernelIdeal.Units
-- ==== Proof.PiecesB.lean ====
module

public import proofs.«01_k».proof.Proof.Gen.KernelIdeal.Frame
public import proofs.«01_k».proof.Proof.Units

/-! # The stores of a step of case B, piece by piece -/

@[expose] public section

set_option maxRecDepth 16384

noncomputable section

namespace Cert.KernelIdeal.Units

open Cert.KernelIdeal Cert.KernelIdeal.Gen Idealize.ShloMosaic Idealize.ShloMosaic.TcCoe

/-- The normed block. -/
theorem norm_B (c : Dev nD) (i : grid0.Coords) (arg1 : Memref sig .tc .smem S16 .f32) (harg1 : arg1.IsWhole) (arg2 : Memref sig .tc .vmem S256x2048 .f32) (harg2 : arg2.IsWhole) (arg3 : Memref sig .tc .vmem S2048x6656 .bf16) (harg3 : arg3.IsWhole) (arg4 : Memref sig .tc .vmem S256x384 .f32) (harg4 : arg4.IsWhole) (arg5 : Memref sig .tc .vmem S2x128x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S256x1024 .bf16) (harg8 : arg8.IsWhole) (arg9 : Memref sig .tc .vmem S256x4096 .f32) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2560 .f32) (harg12 : arg12.IsWhole) (arg13 : Memref sig .tc .vmem S256x2560 .f32) (harg13 : arg13.IsWhole) (arg14 : Memref sig .tc .vmem S4x64x384 .bf16) (harg14 : arg14.IsWhole) (arg15 : Memref sig .tc .vmem S4x384x128 .bf16) (harg15 : arg15.IsWhole) (hc0 : ¬cond0_0 i) (hc1 : ¬cond0_1 i) (hc2 : ¬cond0_2 i) (hc3 : cond0_3 i)
    (x0 : Vec Ideal S16 .f32) (x1 : Vec Ideal S256x2048 .f32) (x2 : Vec Ideal S2048x6656 .bf16) (x3 : Vec Ideal S256x384 .f32) (x4 : Vec Ideal S2x128x256 .f32) (x5 : Vec Ideal S1x128 .f32) (x6 : Vec Ideal S1x128 .f32) (xs0 : Vec Ideal S256x2048 .bf16) (xs3 : Vec Ideal S256x2560 .f32) (xs4 : Vec Ideal S4x64x384 .bf16) (xs5 : Vec Ideal S4x384x128 .bf16) :
    (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 xs0 xs3 xs4 xs5).2.2.2.1
      = nAll (arg2.view.read (Elt Ideal) (harg2.unread x1)) := by
  sl_kernel_rfl

/-- The attention stores. -/
theorem mix_B (c : Dev nD) (i : grid0.Coords) (arg1 : Memref sig .tc .smem S16 .f32) (harg1 : arg1.IsWhole) (arg2 : Memref sig .tc .vmem S256x2048 .f32) (harg2 : arg2.IsWhole) (arg3 : Memref sig .tc .vmem S2048x6656 .bf16) (harg3 : arg3.IsWhole) (arg4 : Memref sig .tc .vmem S256x384 .f32) (harg4 : arg4.IsWhole) (arg5 : Memref sig .tc .vmem S2x128x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S256x1024 .bf16) (harg8 : arg8.IsWhole) (arg9 : Memref sig .tc .vmem S256x4096 .f32) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2560 .f32) (harg12 : arg12.IsWhole) (arg13 : Memref sig .tc .vmem S256x2560 .f32) (harg13 : arg13.IsWhole) (arg14 : Memref sig .tc .vmem S4x64x384 .bf16) (harg14 : arg14.IsWhole) (arg15 : Memref sig .tc .vmem S4x384x128 .bf16) (harg15 : arg15.IsWhole) (hc0 : ¬cond0_0 i) (hc1 : ¬cond0_1 i) (hc2 : ¬cond0_2 i) (hc3 : cond0_3 i)
    (x0 : Vec Ideal S16 .f32) (x1 : Vec Ideal S256x2048 .f32) (x2 : Vec Ideal S2048x6656 .bf16) (x3 : Vec Ideal S256x384 .f32) (x4 : Vec Ideal S2x128x256 .f32) (x5 : Vec Ideal S1x128 .f32) (x6 : Vec Ideal S1x128 .f32) (xs0 : Vec Ideal S256x2048 .bf16) (xs3 : Vec Ideal S256x2560 .f32) (xs4 : Vec Ideal S4x64x384 .bf16) (xs5 : Vec Ideal S4x384x128 .bf16) :
    (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 xs0 xs3 xs4 xs5).1
      = mixAll arg14.view (harg14.unread xs4) arg15.view (harg15.unread xs5) (i 0) [] []
          (arg1.view.read (Elt Ideal) (harg1.unread x0)) (arg4.view.read (Elt Ideal) (harg4.unread x3)) (arg5.view.read (Elt Ideal) (harg5.unread x4)) (arg6.view.read (Elt Ideal) (harg6.unread x5)) (arg7.view.read (Elt Ideal) (harg7.unread x6)) (arg13.view.read (Elt Ideal) (harg13.unread xs3)) := by
  sl_kernel_rfl

/-- The projection onto the columns of the convolution. -/
theorem conv_B (c : Dev nD) (i : grid0.Coords) (arg1 : Memref sig .tc .smem S16 .f32) (harg1 : arg1.IsWhole) (arg2 : Memref sig .tc .vmem S256x2048 .f32) (harg2 : arg2.IsWhole) (arg3 : Memref sig .tc .vmem S2048x6656 .bf16) (harg3 : arg3.IsWhole) (arg4 : Memref sig .tc .vmem S256x384 .f32) (harg4 : arg4.IsWhole) (arg5 : Memref sig .tc .vmem S2x128x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S256x1024 .bf16) (harg8 : arg8.IsWhole) (arg9 : Memref sig .tc .vmem S256x4096 .f32) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2560 .f32) (harg12 : arg12.IsWhole) (arg13 : Memref sig .tc .vmem S256x2560 .f32) (harg13 : arg13.IsWhole) (arg14 : Memref sig .tc .vmem S4x64x384 .bf16) (harg14 : arg14.IsWhole) (arg15 : Memref sig .tc .vmem S4x384x128 .bf16) (harg15 : arg15.IsWhole) (hc0 : ¬cond0_0 i) (hc1 : ¬cond0_1 i) (hc2 : ¬cond0_2 i) (hc3 : cond0_3 i)
    (x0 : Vec Ideal S16 .f32) (x1 : Vec Ideal S256x2048 .f32) (x2 : Vec Ideal S2048x6656 .bf16) (x3 : Vec Ideal S256x384 .f32) (x4 : Vec Ideal S2x128x256 .f32) (x5 : Vec Ideal S1x128 .f32) (x6 : Vec Ideal S1x128 .f32) (xs0 : Vec Ideal S256x2048 .bf16) (xs3 : Vec Ideal S256x2560 .f32) (xs4 : Vec Ideal S4x64x384 .bf16) (xs5 : Vec Ideal S4x384x128 .bf16) :
    (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 xs0 xs3 xs4 xs5).2.1
      = cAll (arg10.view.read (Elt Ideal) (harg10.unread xs0)) (arg3.view.read (Elt Ideal) (harg3.unread x2)) := by
  sl_kernel_rfl

/-- The projection onto the columns of the attention. -/
theorem proj_B (c : Dev nD) (i : grid0.Coords) (arg1 : Memref sig .tc .smem S16 .f32) (harg1 : arg1.IsWhole) (arg2 : Memref sig .tc .vmem S256x2048 .f32) (harg2 : arg2.IsWhole) (arg3 : Memref sig .tc .vmem S2048x6656 .bf16) (harg3 : arg3.IsWhole) (arg4 : Memref sig .tc .vmem S256x384 .f32) (harg4 : arg4.IsWhole) (arg5 : Memref sig .tc .vmem S2x128x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S256x1024 .bf16) (harg8 : arg8.IsWhole) (arg9 : Memref sig .tc .vmem S256x4096 .f32) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2560 .f32) (harg12 : arg12.IsWhole) (arg13 : Memref sig .tc .vmem S256x2560 .f32) (harg13 : arg13.IsWhole) (arg14 : Memref sig .tc .vmem S4x64x384 .bf16) (harg14 : arg14.IsWhole) (arg15 : Memref sig .tc .vmem S4x384x128 .bf16) (harg15 : arg15.IsWhole) (hc0 : ¬cond0_0 i) (hc1 : ¬cond0_1 i) (hc2 : ¬cond0_2 i) (hc3 : cond0_3 i)
    (x0 : Vec Ideal S16 .f32) (x1 : Vec Ideal S256x2048 .f32) (x2 : Vec Ideal S2048x6656 .bf16) (x3 : Vec Ideal S256x384 .f32) (x4 : Vec Ideal S2x128x256 .f32) (x5 : Vec Ideal S1x128 .f32) (x6 : Vec Ideal S1x128 .f32) (xs0 : Vec Ideal S256x2048 .bf16) (xs3 : Vec Ideal S256x2560 .f32) (xs4 : Vec Ideal S4x64x384 .bf16) (xs5 : Vec Ideal S4x384x128 .bf16) :
    (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 xs0 xs3 xs4 xs5).2.2.2.2.1
      = zAll (arg10.view.read (Elt Ideal) (harg10.unread xs0)) (arg3.view.read (Elt Ideal) (harg3.unread x2)) := by
  sl_kernel_rfl

/-- The keys' band. -/
theorem keys_B (c : Dev nD) (i : grid0.Coords) (arg1 : Memref sig .tc .smem S16 .f32) (harg1 : arg1.IsWhole) (arg2 : Memref sig .tc .vmem S256x2048 .f32) (harg2 : arg2.IsWhole) (arg3 : Memref sig .tc .vmem S2048x6656 .bf16) (harg3 : arg3.IsWhole) (arg4 : Memref sig .tc .vmem S256x384 .f32) (harg4 : arg4.IsWhole) (arg5 : Memref sig .tc .vmem S2x128x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S256x1024 .bf16) (harg8 : arg8.IsWhole) (arg9 : Memref sig .tc .vmem S256x4096 .f32) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2560 .f32) (harg12 : arg12.IsWhole) (arg13 : Memref sig .tc .vmem S256x2560 .f32) (harg13 : arg13.IsWhole) (arg14 : Memref sig .tc .vmem S4x64x384 .bf16) (harg14 : arg14.IsWhole) (arg15 : Memref sig .tc .vmem S4x384x128 .bf16) (harg15 : arg15.IsWhole) (hc0 : ¬cond0_0 i) (hc1 : ¬cond0_1 i) (hc2 : ¬cond0_2 i) (hc3 : cond0_3 i)
    (x0 : Vec Ideal S16 .f32) (x1 : Vec Ideal S256x2048 .f32) (x2 : Vec Ideal S2048x6656 .bf16) (x3 : Vec Ideal S256x384 .f32) (x4 : Vec Ideal S2x128x256 .f32) (x5 : Vec Ideal S1x128 .f32) (x6 : Vec Ideal S1x128 .f32) (xs0 : Vec Ideal S256x2048 .bf16) (xs3 : Vec Ideal S256x2560 .f32) (xs4 : Vec Ideal S4x64x384 .bf16) (xs5 : Vec Ideal S4x384x128 .bf16) :
    (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 xs0 xs3 xs4 xs5).2.2.2.2.2.2.1
      = kAll arg14.view [] (arg4.view.read (Elt Ideal) (harg4.unread x3)) (arg7.view.read (Elt Ideal) (harg7.unread x6)) (arg13.view.read (Elt Ideal) (harg13.unread xs3)) := by
  sl_kernel_rfl

/-- The values' band. -/
theorem vals_B (c : Dev nD) (i : grid0.Coords) (arg1 : Memref sig .tc .smem S16 .f32) (harg1 : arg1.IsWhole) (arg2 : Memref sig .tc .vmem S256x2048 .f32) (harg2 : arg2.IsWhole) (arg3 : Memref sig .tc .vmem S2048x6656 .bf16) (harg3 : arg3.IsWhole) (arg4 : Memref sig .tc .vmem S256x384 .f32) (harg4 : arg4.IsWhole) (arg5 : Memref sig .tc .vmem S2x128x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S256x1024 .bf16) (harg8 : arg8.IsWhole) (arg9 : Memref sig .tc .vmem S256x4096 .f32) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2560 .f32) (harg12 : arg12.IsWhole) (arg13 : Memref sig .tc .vmem S256x2560 .f32) (harg13 : arg13.IsWhole) (arg14 : Memref sig .tc .vmem S4x64x384 .bf16) (harg14 : arg14.IsWhole) (arg15 : Memref sig .tc .vmem S4x384x128 .bf16) (harg15 : arg15.IsWhole) (hc0 : ¬cond0_0 i) (hc1 : ¬cond0_1 i) (hc2 : ¬cond0_2 i) (hc3 : cond0_3 i)
    (x0 : Vec Ideal S16 .f32) (x1 : Vec Ideal S256x2048 .f32) (x2 : Vec Ideal S2048x6656 .bf16) (x3 : Vec Ideal S256x384 .f32) (x4 : Vec Ideal S2x128x256 .f32) (x5 : Vec Ideal S1x128 .f32) (x6 : Vec Ideal S1x128 .f32) (xs0 : Vec Ideal S256x2048 .bf16) (xs3 : Vec Ideal S256x2560 .f32) (xs4 : Vec Ideal S4x64x384 .bf16) (xs5 : Vec Ideal S4x384x128 .bf16) :
    (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 xs0 xs3 xs4 xs5).2.2.2.2.2.2.2.1
      = vAll arg15.view [] (arg13.view.read (Elt Ideal) (harg13.unread xs3)) := by
  sl_kernel_rfl

end Cert.KernelIdeal.Units
-- ==== Proof.PiecesC.lean ====
module

public import proofs.«01_k».proof.Proof.Gen.KernelIdeal.Frame
public import proofs.«01_k».proof.Proof.Units

/-! # The stores of a step of case C, piece by piece -/

@[expose] public section

set_option maxRecDepth 16384

noncomputable section

namespace Cert.KernelIdeal.Units

open Cert.KernelIdeal Cert.KernelIdeal.Gen Idealize.ShloMosaic Idealize.ShloMosaic.TcCoe

/-- The normed block. -/
theorem norm_C (c : Dev nD) (i : grid0.Coords) (arg1 : Memref sig .tc .smem S16 .f32) (harg1 : arg1.IsWhole) (arg2 : Memref sig .tc .vmem S256x2048 .f32) (harg2 : arg2.IsWhole) (arg3 : Memref sig .tc .vmem S2048x6656 .bf16) (harg3 : arg3.IsWhole) (arg4 : Memref sig .tc .vmem S256x384 .f32) (harg4 : arg4.IsWhole) (arg5 : Memref sig .tc .vmem S2x128x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S256x1024 .bf16) (harg8 : arg8.IsWhole) (arg9 : Memref sig .tc .vmem S256x4096 .f32) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2560 .f32) (harg12 : arg12.IsWhole) (arg13 : Memref sig .tc .vmem S256x2560 .f32) (harg13 : arg13.IsWhole) (arg14 : Memref sig .tc .vmem S4x64x384 .bf16) (harg14 : arg14.IsWhole) (arg15 : Memref sig .tc .vmem S4x384x128 .bf16) (harg15 : arg15.IsWhole) (hc0 : ¬cond0_0 i) (hc1 : cond0_1 i) (hc2 : cond0_2 i) (hc3 : ¬cond0_3 i)
    (x0 : Vec Ideal S16 .f32) (x1 : Vec Ideal S256x2048 .f32) (x2 : Vec Ideal S2048x6656 .bf16) (x3 : Vec Ideal S256x384 .f32) (x4 : Vec Ideal S2x128x256 .f32) (x5 : Vec Ideal S1x128 .f32) (x6 : Vec Ideal S1x128 .f32) (xs1 : Vec Ideal S256x2048 .bf16) (xs2 : Vec Ideal S256x2560 .f32) :
    (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 xs1 xs2).2.2.1
      = nAll (arg2.view.read (Elt Ideal) (harg2.unread x1)) := by
  sl_kernel_rfl

/-- The attention stores. -/
theorem mix_C (c : Dev nD) (i : grid0.Coords) (arg1 : Memref sig .tc .smem S16 .f32) (harg1 : arg1.IsWhole) (arg2 : Memref sig .tc .vmem S256x2048 .f32) (harg2 : arg2.IsWhole) (arg3 : Memref sig .tc .vmem S2048x6656 .bf16) (harg3 : arg3.IsWhole) (arg4 : Memref sig .tc .vmem S256x384 .f32) (harg4 : arg4.IsWhole) (arg5 : Memref sig .tc .vmem S2x128x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S256x1024 .bf16) (harg8 : arg8.IsWhole) (arg9 : Memref sig .tc .vmem S256x4096 .f32) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2560 .f32) (harg12 : arg12.IsWhole) (arg13 : Memref sig .tc .vmem S256x2560 .f32) (harg13 : arg13.IsWhole) (arg14 : Memref sig .tc .vmem S4x64x384 .bf16) (harg14 : arg14.IsWhole) (arg15 : Memref sig .tc .vmem S4x384x128 .bf16) (harg15 : arg15.IsWhole) (hc0 : ¬cond0_0 i) (hc1 : cond0_1 i) (hc2 : cond0_2 i) (hc3 : ¬cond0_3 i)
    (x0 : Vec Ideal S16 .f32) (x1 : Vec Ideal S256x2048 .f32) (x2 : Vec Ideal S2048x6656 .bf16) (x3 : Vec Ideal S256x384 .f32) (x4 : Vec Ideal S2x128x256 .f32) (x5 : Vec Ideal S1x128 .f32) (x6 : Vec Ideal S1x128 .f32) (xs1 : Vec Ideal S256x2048 .bf16) (xs2 : Vec Ideal S256x2560 .f32) :
    (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 xs1 xs2).1
      = mixAll arg14.view (arg14.view.writes (Elt Ideal) arg14.view.junk zeroK) arg15.view (arg15.view.writes (Elt Ideal) arg15.view.junk zeroV) (i 0) zeroK zeroV
          (arg1.view.read (Elt Ideal) (harg1.unread x0)) (arg4.view.read (Elt Ideal) (harg4.unread x3)) (arg5.view.read (Elt Ideal) (harg5.unread x4)) (arg6.view.read (Elt Ideal) (harg6.unread x5)) (arg7.view.read (Elt Ideal) (harg7.unread x6)) (arg12.view.read (Elt Ideal) (harg12.unread xs2)) := by
  sl_kernel_rfl

/-- The projection onto the columns of the convolution. -/
theorem conv_C (c : Dev nD) (i : grid0.Coords) (arg1 : Memref sig .tc .smem S16 .f32) (harg1 : arg1.IsWhole) (arg2 : Memref sig .tc .vmem S256x2048 .f32) (harg2 : arg2.IsWhole) (arg3 : Memref sig .tc .vmem S2048x6656 .bf16) (harg3 : arg3.IsWhole) (arg4 : Memref sig .tc .vmem S256x384 .f32) (harg4 : arg4.IsWhole) (arg5 : Memref sig .tc .vmem S2x128x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S256x1024 .bf16) (harg8 : arg8.IsWhole) (arg9 : Memref sig .tc .vmem S256x4096 .f32) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2560 .f32) (harg12 : arg12.IsWhole) (arg13 : Memref sig .tc .vmem S256x2560 .f32) (harg13 : arg13.IsWhole) (arg14 : Memref sig .tc .vmem S4x64x384 .bf16) (harg14 : arg14.IsWhole) (arg15 : Memref sig .tc .vmem S4x384x128 .bf16) (harg15 : arg15.IsWhole) (hc0 : ¬cond0_0 i) (hc1 : cond0_1 i) (hc2 : cond0_2 i) (hc3 : ¬cond0_3 i)
    (x0 : Vec Ideal S16 .f32) (x1 : Vec Ideal S256x2048 .f32) (x2 : Vec Ideal S2048x6656 .bf16) (x3 : Vec Ideal S256x384 .f32) (x4 : Vec Ideal S2x128x256 .f32) (x5 : Vec Ideal S1x128 .f32) (x6 : Vec Ideal S1x128 .f32) (xs1 : Vec Ideal S256x2048 .bf16) (xs2 : Vec Ideal S256x2560 .f32) :
    (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 xs1 xs2).2.1
      = cAll (arg11.view.read (Elt Ideal) (harg11.unread xs1)) (arg3.view.read (Elt Ideal) (harg3.unread x2)) := by
  sl_kernel_rfl

/-- The projection onto the columns of the attention. -/
theorem proj_C (c : Dev nD) (i : grid0.Coords) (arg1 : Memref sig .tc .smem S16 .f32) (harg1 : arg1.IsWhole) (arg2 : Memref sig .tc .vmem S256x2048 .f32) (harg2 : arg2.IsWhole) (arg3 : Memref sig .tc .vmem S2048x6656 .bf16) (harg3 : arg3.IsWhole) (arg4 : Memref sig .tc .vmem S256x384 .f32) (harg4 : arg4.IsWhole) (arg5 : Memref sig .tc .vmem S2x128x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S256x1024 .bf16) (harg8 : arg8.IsWhole) (arg9 : Memref sig .tc .vmem S256x4096 .f32) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2560 .f32) (harg12 : arg12.IsWhole) (arg13 : Memref sig .tc .vmem S256x2560 .f32) (harg13 : arg13.IsWhole) (arg14 : Memref sig .tc .vmem S4x64x384 .bf16) (harg14 : arg14.IsWhole) (arg15 : Memref sig .tc .vmem S4x384x128 .bf16) (harg15 : arg15.IsWhole) (hc0 : ¬cond0_0 i) (hc1 : cond0_1 i) (hc2 : cond0_2 i) (hc3 : ¬cond0_3 i)
    (x0 : Vec Ideal S16 .f32) (x1 : Vec Ideal S256x2048 .f32) (x2 : Vec Ideal S2048x6656 .bf16) (x3 : Vec Ideal S256x384 .f32) (x4 : Vec Ideal S2x128x256 .f32) (x5 : Vec Ideal S1x128 .f32) (x6 : Vec Ideal S1x128 .f32) (xs1 : Vec Ideal S256x2048 .bf16) (xs2 : Vec Ideal S256x2560 .f32) :
    (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 xs1 xs2).2.2.2.2.2.1
      = zAll (arg11.view.read (Elt Ideal) (harg11.unread xs1)) (arg3.view.read (Elt Ideal) (harg3.unread x2)) := by
  sl_kernel_rfl

/-- The keys' band. -/
theorem keys_C (c : Dev nD) (i : grid0.Coords) (arg1 : Memref sig .tc .smem S16 .f32) (harg1 : arg1.IsWhole) (arg2 : Memref sig .tc .vmem S256x2048 .f32) (harg2 : arg2.IsWhole) (arg3 : Memref sig .tc .vmem S2048x6656 .bf16) (harg3 : arg3.IsWhole) (arg4 : Memref sig .tc .vmem S256x384 .f32) (harg4 : arg4.IsWhole) (arg5 : Memref sig .tc .vmem S2x128x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S256x1024 .bf16) (harg8 : arg8.IsWhole) (arg9 : Memref sig .tc .vmem S256x4096 .f32) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2560 .f32) (harg12 : arg12.IsWhole) (arg13 : Memref sig .tc .vmem S256x2560 .f32) (harg13 : arg13.IsWhole) (arg14 : Memref sig .tc .vmem S4x64x384 .bf16) (harg14 : arg14.IsWhole) (arg15 : Memref sig .tc .vmem S4x384x128 .bf16) (harg15 : arg15.IsWhole) (hc0 : ¬cond0_0 i) (hc1 : cond0_1 i) (hc2 : cond0_2 i) (hc3 : ¬cond0_3 i)
    (x0 : Vec Ideal S16 .f32) (x1 : Vec Ideal S256x2048 .f32) (x2 : Vec Ideal S2048x6656 .bf16) (x3 : Vec Ideal S256x384 .f32) (x4 : Vec Ideal S2x128x256 .f32) (x5 : Vec Ideal S1x128 .f32) (x6 : Vec Ideal S1x128 .f32) (xs1 : Vec Ideal S256x2048 .bf16) (xs2 : Vec Ideal S256x2560 .f32) :
    (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 xs1 xs2).2.2.2.2.2.2.1
      = kAll arg14.view zeroK (arg4.view.read (Elt Ideal) (harg4.unread x3)) (arg7.view.read (Elt Ideal) (harg7.unread x6)) (arg12.view.read (Elt Ideal) (harg12.unread xs2)) := by
  sl_kernel_rfl

/-- The values' band. -/
theorem vals_C (c : Dev nD) (i : grid0.Coords) (arg1 : Memref sig .tc .smem S16 .f32) (harg1 : arg1.IsWhole) (arg2 : Memref sig .tc .vmem S256x2048 .f32) (harg2 : arg2.IsWhole) (arg3 : Memref sig .tc .vmem S2048x6656 .bf16) (harg3 : arg3.IsWhole) (arg4 : Memref sig .tc .vmem S256x384 .f32) (harg4 : arg4.IsWhole) (arg5 : Memref sig .tc .vmem S2x128x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S256x1024 .bf16) (harg8 : arg8.IsWhole) (arg9 : Memref sig .tc .vmem S256x4096 .f32) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2560 .f32) (harg12 : arg12.IsWhole) (arg13 : Memref sig .tc .vmem S256x2560 .f32) (harg13 : arg13.IsWhole) (arg14 : Memref sig .tc .vmem S4x64x384 .bf16) (harg14 : arg14.IsWhole) (arg15 : Memref sig .tc .vmem S4x384x128 .bf16) (harg15 : arg15.IsWhole) (hc0 : ¬cond0_0 i) (hc1 : cond0_1 i) (hc2 : cond0_2 i) (hc3 : ¬cond0_3 i)
    (x0 : Vec Ideal S16 .f32) (x1 : Vec Ideal S256x2048 .f32) (x2 : Vec Ideal S2048x6656 .bf16) (x3 : Vec Ideal S256x384 .f32) (x4 : Vec Ideal S2x128x256 .f32) (x5 : Vec Ideal S1x128 .f32) (x6 : Vec Ideal S1x128 .f32) (xs1 : Vec Ideal S256x2048 .bf16) (xs2 : Vec Ideal S256x2560 .f32) :
    (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 xs1 xs2).2.2.2.2.2.2.2.1
      = vAll arg15.view zeroV (arg12.view.read (Elt Ideal) (harg12.unread xs2)) := by
  sl_kernel_rfl

end Cert.KernelIdeal.Units
-- ==== Proof.PiecesD.lean ====
module

public import proofs.«01_k».proof.Proof.Gen.KernelIdeal.Frame
public import proofs.«01_k».proof.Proof.Units

/-! # The stores of a step of case D, piece by piece -/

@[expose] public section

set_option maxRecDepth 16384

noncomputable section

namespace Cert.KernelIdeal.Units

open Cert.KernelIdeal Cert.KernelIdeal.Gen Idealize.ShloMosaic Idealize.ShloMosaic.TcCoe

/-- The normed block. -/
theorem norm_D (c : Dev nD) (i : grid0.Coords) (arg1 : Memref sig .tc .smem S16 .f32) (harg1 : arg1.IsWhole) (arg2 : Memref sig .tc .vmem S256x2048 .f32) (harg2 : arg2.IsWhole) (arg3 : Memref sig .tc .vmem S2048x6656 .bf16) (harg3 : arg3.IsWhole) (arg4 : Memref sig .tc .vmem S256x384 .f32) (harg4 : arg4.IsWhole) (arg5 : Memref sig .tc .vmem S2x128x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S256x1024 .bf16) (harg8 : arg8.IsWhole) (arg9 : Memref sig .tc .vmem S256x4096 .f32) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2560 .f32) (harg12 : arg12.IsWhole) (arg13 : Memref sig .tc .vmem S256x2560 .f32) (harg13 : arg13.IsWhole) (arg14 : Memref sig .tc .vmem S4x64x384 .bf16) (harg14 : arg14.IsWhole) (arg15 : Memref sig .tc .vmem S4x384x128 .bf16) (harg15 : arg15.IsWhole) (hc0 : ¬cond0_0 i) (hc1 : ¬cond0_1 i) (hc2 : cond0_2 i) (hc3 : ¬cond0_3 i)
    (x0 : Vec Ideal S16 .f32) (x1 : Vec Ideal S256x2048 .f32) (x2 : Vec Ideal S2048x6656 .bf16) (x3 : Vec Ideal S256x384 .f32) (x4 : Vec Ideal S2x128x256 .f32) (x5 : Vec Ideal S1x128 .f32) (x6 : Vec Ideal S1x128 .f32) (xs1 : Vec Ideal S256x2048 .bf16) (xs2 : Vec Ideal S256x2560 .f32) (xs4 : Vec Ideal S4x64x384 .bf16) (xs5 : Vec Ideal S4x384x128 .bf16) :
    (kernelRun0_D (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 xs1 xs2 xs4 xs5).2.2.1
      = nAll (arg2.view.read (Elt Ideal) (harg2.unread x1)) := by
  sl_kernel_rfl

/-- The attention stores. -/
theorem mix_D (c : Dev nD) (i : grid0.Coords) (arg1 : Memref sig .tc .smem S16 .f32) (harg1 : arg1.IsWhole) (arg2 : Memref sig .tc .vmem S256x2048 .f32) (harg2 : arg2.IsWhole) (arg3 : Memref sig .tc .vmem S2048x6656 .bf16) (harg3 : arg3.IsWhole) (arg4 : Memref sig .tc .vmem S256x384 .f32) (harg4 : arg4.IsWhole) (arg5 : Memref sig .tc .vmem S2x128x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S256x1024 .bf16) (harg8 : arg8.IsWhole) (arg9 : Memref sig .tc .vmem S256x4096 .f32) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2560 .f32) (harg12 : arg12.IsWhole) (arg13 : Memref sig .tc .vmem S256x2560 .f32) (harg13 : arg13.IsWhole) (arg14 : Memref sig .tc .vmem S4x64x384 .bf16) (harg14 : arg14.IsWhole) (arg15 : Memref sig .tc .vmem S4x384x128 .bf16) (harg15 : arg15.IsWhole) (hc0 : ¬cond0_0 i) (hc1 : ¬cond0_1 i) (hc2 : cond0_2 i) (hc3 : ¬cond0_3 i)
    (x0 : Vec Ideal S16 .f32) (x1 : Vec Ideal S256x2048 .f32) (x2 : Vec Ideal S2048x6656 .bf16) (x3 : Vec Ideal S256x384 .f32) (x4 : Vec Ideal S2x128x256 .f32) (x5 : Vec Ideal S1x128 .f32) (x6 : Vec Ideal S1x128 .f32) (xs1 : Vec Ideal S256x2048 .bf16) (xs2 : Vec Ideal S256x2560 .f32) (xs4 : Vec Ideal S4x64x384 .bf16) (xs5 : Vec Ideal S4x384x128 .bf16) :
    (kernelRun0_D (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 xs1 xs2 xs4 xs5).1
      = mixAll arg14.view (harg14.unread xs4) arg15.view (harg15.unread xs5) (i 0) [] []
          (arg1.view.read (Elt Ideal) (harg1.unread x0)) (arg4.view.read (Elt Ideal) (harg4.unread x3)) (arg5.view.read (Elt Ideal) (harg5.unread x4)) (arg6.view.read (Elt Ideal) (harg6.unread x5)) (arg7.view.read (Elt Ideal) (harg7.unread x6)) (arg12.view.read (Elt Ideal) (harg12.unread xs2)) := by
  sl_kernel_rfl

/-- The projection onto the columns of the convolution. -/
theorem conv_D (c : Dev nD) (i : grid0.Coords) (arg1 : Memref sig .tc .smem S16 .f32) (harg1 : arg1.IsWhole) (arg2 : Memref sig .tc .vmem S256x2048 .f32) (harg2 : arg2.IsWhole) (arg3 : Memref sig .tc .vmem S2048x6656 .bf16) (harg3 : arg3.IsWhole) (arg4 : Memref sig .tc .vmem S256x384 .f32) (harg4 : arg4.IsWhole) (arg5 : Memref sig .tc .vmem S2x128x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S256x1024 .bf16) (harg8 : arg8.IsWhole) (arg9 : Memref sig .tc .vmem S256x4096 .f32) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2560 .f32) (harg12 : arg12.IsWhole) (arg13 : Memref sig .tc .vmem S256x2560 .f32) (harg13 : arg13.IsWhole) (arg14 : Memref sig .tc .vmem S4x64x384 .bf16) (harg14 : arg14.IsWhole) (arg15 : Memref sig .tc .vmem S4x384x128 .bf16) (harg15 : arg15.IsWhole) (hc0 : ¬cond0_0 i) (hc1 : ¬cond0_1 i) (hc2 : cond0_2 i) (hc3 : ¬cond0_3 i)
    (x0 : Vec Ideal S16 .f32) (x1 : Vec Ideal S256x2048 .f32) (x2 : Vec Ideal S2048x6656 .bf16) (x3 : Vec Ideal S256x384 .f32) (x4 : Vec Ideal S2x128x256 .f32) (x5 : Vec Ideal S1x128 .f32) (x6 : Vec Ideal S1x128 .f32) (xs1 : Vec Ideal S256x2048 .bf16) (xs2 : Vec Ideal S256x2560 .f32) (xs4 : Vec Ideal S4x64x384 .bf16) (xs5 : Vec Ideal S4x384x128 .bf16) :
    (kernelRun0_D (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 xs1 xs2 xs4 xs5).2.1
      = cAll (arg11.view.read (Elt Ideal) (harg11.unread xs1)) (arg3.view.read (Elt Ideal) (harg3.unread x2)) := by
  sl_kernel_rfl

/-- The projection onto the columns of the attention. -/
theorem proj_D (c : Dev nD) (i : grid0.Coords) (arg1 : Memref sig .tc .smem S16 .f32) (harg1 : arg1.IsWhole) (arg2 : Memref sig .tc .vmem S256x2048 .f32) (harg2 : arg2.IsWhole) (arg3 : Memref sig .tc .vmem S2048x6656 .bf16) (harg3 : arg3.IsWhole) (arg4 : Memref sig .tc .vmem S256x384 .f32) (harg4 : arg4.IsWhole) (arg5 : Memref sig .tc .vmem S2x128x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S256x1024 .bf16) (harg8 : arg8.IsWhole) (arg9 : Memref sig .tc .vmem S256x4096 .f32) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2560 .f32) (harg12 : arg12.IsWhole) (arg13 : Memref sig .tc .vmem S256x2560 .f32) (harg13 : arg13.IsWhole) (arg14 : Memref sig .tc .vmem S4x64x384 .bf16) (harg14 : arg14.IsWhole) (arg15 : Memref sig .tc .vmem S4x384x128 .bf16) (harg15 : arg15.IsWhole) (hc0 : ¬cond0_0 i) (hc1 : ¬cond0_1 i) (hc2 : cond0_2 i) (hc3 : ¬cond0_3 i)
    (x0 : Vec Ideal S16 .f32) (x1 : Vec Ideal S256x2048 .f32) (x2 : Vec Ideal S2048x6656 .bf16) (x3 : Vec Ideal S256x384 .f32) (x4 : Vec Ideal S2x128x256 .f32) (x5 : Vec Ideal S1x128 .f32) (x6 : Vec Ideal S1x128 .f32) (xs1 : Vec Ideal S256x2048 .bf16) (xs2 : Vec Ideal S256x2560 .f32) (xs4 : Vec Ideal S4x64x384 .bf16) (xs5 : Vec Ideal S4x384x128 .bf16) :
    (kernelRun0_D (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 xs1 xs2 xs4 xs5).2.2.2.2.2.1
      = zAll (arg11.view.read (Elt Ideal) (harg11.unread xs1)) (arg3.view.read (Elt Ideal) (harg3.unread x2)) := by
  sl_kernel_rfl

/-- The keys' band. -/
theorem keys_D (c : Dev nD) (i : grid0.Coords) (arg1 : Memref sig .tc .smem S16 .f32) (harg1 : arg1.IsWhole) (arg2 : Memref sig .tc .vmem S256x2048 .f32) (harg2 : arg2.IsWhole) (arg3 : Memref sig .tc .vmem S2048x6656 .bf16) (harg3 : arg3.IsWhole) (arg4 : Memref sig .tc .vmem S256x384 .f32) (harg4 : arg4.IsWhole) (arg5 : Memref sig .tc .vmem S2x128x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S256x1024 .bf16) (harg8 : arg8.IsWhole) (arg9 : Memref sig .tc .vmem S256x4096 .f32) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2560 .f32) (harg12 : arg12.IsWhole) (arg13 : Memref sig .tc .vmem S256x2560 .f32) (harg13 : arg13.IsWhole) (arg14 : Memref sig .tc .vmem S4x64x384 .bf16) (harg14 : arg14.IsWhole) (arg15 : Memref sig .tc .vmem S4x384x128 .bf16) (harg15 : arg15.IsWhole) (hc0 : ¬cond0_0 i) (hc1 : ¬cond0_1 i) (hc2 : cond0_2 i) (hc3 : ¬cond0_3 i)
    (x0 : Vec Ideal S16 .f32) (x1 : Vec Ideal S256x2048 .f32) (x2 : Vec Ideal S2048x6656 .bf16) (x3 : Vec Ideal S256x384 .f32) (x4 : Vec Ideal S2x128x256 .f32) (x5 : Vec Ideal S1x128 .f32) (x6 : Vec Ideal S1x128 .f32) (xs1 : Vec Ideal S256x2048 .bf16) (xs2 : Vec Ideal S256x2560 .f32) (xs4 : Vec Ideal S4x64x384 .bf16) (xs5 : Vec Ideal S4x384x128 .bf16) :
    (kernelRun0_D (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 xs1 xs2 xs4 xs5).2.2.2.2.2.2.1
      = kAll arg14.view [] (arg4.view.read (Elt Ideal) (harg4.unread x3)) (arg7.view.read (Elt Ideal) (harg7.unread x6)) (arg12.view.read (Elt Ideal) (harg12.unread xs2)) := by
  sl_kernel_rfl

/-- The values' band. -/
theorem vals_D (c : Dev nD) (i : grid0.Coords) (arg1 : Memref sig .tc .smem S16 .f32) (harg1 : arg1.IsWhole) (arg2 : Memref sig .tc .vmem S256x2048 .f32) (harg2 : arg2.IsWhole) (arg3 : Memref sig .tc .vmem S2048x6656 .bf16) (harg3 : arg3.IsWhole) (arg4 : Memref sig .tc .vmem S256x384 .f32) (harg4 : arg4.IsWhole) (arg5 : Memref sig .tc .vmem S2x128x256 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S256x1024 .bf16) (harg8 : arg8.IsWhole) (arg9 : Memref sig .tc .vmem S256x4096 .f32) (harg9 : arg9.IsWhole) (arg10 : Memref sig .tc .vmem S256x2048 .bf16) (harg10 : arg10.IsWhole) (arg11 : Memref sig .tc .vmem S256x2048 .bf16) (harg11 : arg11.IsWhole) (arg12 : Memref sig .tc .vmem S256x2560 .f32) (harg12 : arg12.IsWhole) (arg13 : Memref sig .tc .vmem S256x2560 .f32) (harg13 : arg13.IsWhole) (arg14 : Memref sig .tc .vmem S4x64x384 .bf16) (harg14 : arg14.IsWhole) (arg15 : Memref sig .tc .vmem S4x384x128 .bf16) (harg15 : arg15.IsWhole) (hc0 : ¬cond0_0 i) (hc1 : ¬cond0_1 i) (hc2 : cond0_2 i) (hc3 : ¬cond0_3 i)
    (x0 : Vec Ideal S16 .f32) (x1 : Vec Ideal S256x2048 .f32) (x2 : Vec Ideal S2048x6656 .bf16) (x3 : Vec Ideal S256x384 .f32) (x4 : Vec Ideal S2x128x256 .f32) (x5 : Vec Ideal S1x128 .f32) (x6 : Vec Ideal S1x128 .f32) (xs1 : Vec Ideal S256x2048 .bf16) (xs2 : Vec Ideal S256x2560 .f32) (xs4 : Vec Ideal S4x64x384 .bf16) (xs5 : Vec Ideal S4x384x128 .bf16) :
    (kernelRun0_D (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 xs1 xs2 xs4 xs5).2.2.2.2.2.2.2.1
      = vAll arg15.view [] (arg12.view.read (Elt Ideal) (harg12.unread xs2)) := by
  sl_kernel_rfl

end Cert.KernelIdeal.Units
-- ==== Proof.Steps.lean ====
module

public import proofs.«01_k».proof.Proof.Attn
public import Idealize.ShloMosaic.Lib.Pipeline.ReadBack
public import proofs.«01_k».proof.Proof.PiecesA
public import proofs.«01_k».proof.Proof.PiecesB
public import proofs.«01_k».proof.Proof.PiecesC
public import proofs.«01_k».proof.Proof.PiecesD

/-! # What each step leaves, from what the step before left

Even and odd steps swap the two buffers of normed rows and the two of projected rows; `hw` and `zw` name the one a step
writes. -/

@[expose] public section

set_option maxRecDepth 16384

noncomputable section

namespace Cert.KernelIdeal.Steps

open Cert.KernelIdeal Cert.KernelIdeal.Gen Cert.KernelIdeal.Units Idealize.ShloMosaic Cert.RealMath Cert.Spec

variable (m : (ℓ : Loc nD τ sig) → Buf (Elt Ideal) ℓ) (c : Dev nD)

/-- Everything a step leaves: the two output blocks, then the scratch. -/
abbrev Out := Vec Ideal S256x1024 .bf16 × Vec Ideal S256x4096 .f32 × Vec Ideal S256x2048 .bf16 × Vec Ideal S256x2048 .bf16
  × Vec Ideal S256x2560 .f32 × Vec Ideal S256x2560 .f32 × Vec Ideal S4x64x384 .bf16 × Vec Ideal S4x384x128 .bf16

/-- What step `t` leaves. -/
abbrev outs (t : Fin cfg0.N) : Out := outsAt0 m c t.val t.isLt
/-- What the step before left. -/
abbrev prev (t : Fin cfg0.N) : Out := outsAt0 m c (t.val - 1) (Nat.lt_of_le_of_lt (Nat.sub_le _ _) t.isLt)

/-- The normed rows step `t` writes. -/
def hw (o : Out) (t : ℕ) : Vec Ideal S256x2048 .bf16 := if t % 2 = 0 then o.2.2.1 else o.2.2.2.1
/-- The projected rows step `t` writes. -/
def zw (o : Out) (t : ℕ) : Vec Ideal S256x2560 .f32 := if t % 2 = 0 then o.2.2.2.2.2.1 else o.2.2.2.2.1

/-- The blocks a step is given. -/
abbrev b0 (t : Fin cfg0.N) : Vec Ideal S16 .f32 := iblk m c 0 t
abbrev b1 (t : Fin cfg0.N) : Vec Ideal S256x2048 .f32 := iblk m c 1 t
abbrev b2 (t : Fin cfg0.N) : Vec Ideal S2048x6656 .bf16 := iblk m c 2 t
abbrev b3 (t : Fin cfg0.N) : Vec Ideal S256x384 .f32 := iblk m c 3 t
abbrev b4 (t : Fin cfg0.N) : Vec Ideal S2x128x256 .f32 := iblk m c 4 t
abbrev b5 (t : Fin cfg0.N) : Vec Ideal S1x128 .f32 := iblk m c 5 t
abbrev b6 (t : Fin cfg0.N) : Vec Ideal S1x128 .f32 := iblk m c 6 t

/-- The four kinds of steps. -/
theorem kinds (t : Fin cfg0.N) (h0 : t.val ≠ 0) :
    (¬t.val % 130 = 0 ∧ ¬t.val % 16 = 2 ∧ ¬t.val % 2 = 0 ∧ t.val % 2 = 1) ∨
    (¬t.val % 130 = 0 ∧ t.val % 16 = 2 ∧ t.val % 2 = 0 ∧ ¬t.val % 2 = 1) ∨
    (¬t.val % 130 = 0 ∧ ¬t.val % 16 = 2 ∧ t.val % 2 = 0 ∧ ¬t.val % 2 = 1) := by
  have : t.val < 130 := t.isLt
  omega

theorem step_norm (t : Fin cfg0.N) (r : Fin 256) (k : Fin 2048) :
    hw (outs m c t) t.val (ix2 r k) = nrow (fun i => b1 m c t (ix2 r i)) k := by
  unfold outs hw
  by_cases h0 : t.val = 0
  · rw [if_pos (by omega), outsAt0_A m c t (by omega) (by omega) (by omega) (by omega)]
    dsimp only
    unfold sout0_A_0
    rw [norm_A]
    simp only [Memref.IsWhole.read_unread, read_unread_whole]
    exact read_all _ _ _ _ _ (nAll_all _ r k) (.inl (nAll_cover _ _))
  rcases kinds t h0 with ⟨a, b, d, e⟩ | ⟨a, b, d, e⟩ | ⟨a, b, d, e⟩
  · rw [if_neg d, outsAt0_B m c t a b d e]
    dsimp only
    unfold sout0_B_1
    rw [norm_B]
    simp only [Memref.IsWhole.read_unread, read_unread_whole]
    exact read_all _ _ _ _ _ (nAll_all _ r k) (.inl (nAll_cover _ _))
  · rw [if_pos d, outsAt0_C m c t a b d e]
    dsimp only
    unfold sout0_C_0
    rw [norm_C]
    simp only [Memref.IsWhole.read_unread, read_unread_whole]
    exact read_all _ _ _ _ _ (nAll_all _ r k) (.inl (nAll_cover _ _))
  · rw [if_pos d, outsAt0_D m c t a b d e]
    dsimp only
    unfold sout0_D_0
    rw [norm_D]
    simp only [Memref.IsWhole.read_unread, read_unread_whole]
    exact read_all _ _ _ _ _ (nAll_all _ r k) (.inl (nAll_cover _ _))

theorem step_conv (t : Fin cfg0.N) (h0 : t.val ≠ 0) (r : Fin 256) (j : Fin 4096) :
    (outs m c t).2.1 (ix2 r j)
      = ∑ k : Fin 2048, hw (prev m c t) (t.val - 1) (ix2 r k) * b2 m c t (ix2 k ⟨2560 + j.val, by omega⟩) := by
  unfold outs hw
  rcases kinds t h0 with ⟨a, b, d, e⟩ | ⟨a, b, d, e⟩ | ⟨a, b, d, e⟩
  · rw [if_pos (show (t.val - 1) % 2 = 0 by omega), outsAt0_B m c t a b d e]
    dsimp only
    unfold out0_B_8
    rw [conv_B]
    simp only [Memref.IsWhole.read_unread, read_unread_whole]
    exact read_all _ _ _ _ _ (cAll_all _ _ r j) (.inl (cAll_cover _ _ _))
  · rw [if_neg (show ¬(t.val - 1) % 2 = 0 by omega), outsAt0_C m c t a b d e]
    dsimp only
    unfold out0_C_8
    rw [conv_C]
    simp only [Memref.IsWhole.read_unread, read_unread_whole]
    exact read_all _ _ _ _ _ (cAll_all _ _ r j) (.inl (cAll_cover _ _ _))
  · rw [if_neg (show ¬(t.val - 1) % 2 = 0 by omega), outsAt0_D m c t a b d e]
    dsimp only
    unfold out0_D_8
    rw [conv_D]
    simp only [Memref.IsWhole.read_unread, read_unread_whole]
    exact read_all _ _ _ _ _ (cAll_all _ _ r j) (.inl (cAll_cover _ _ _))

theorem step_proj (t : Fin cfg0.N) (h0 : t.val ≠ 0) (r : Fin 256) (j : Fin 2560) :
    zw (outs m c t) t.val (ix2 r j)
      = ∑ k : Fin 2048, hw (prev m c t) (t.val - 1) (ix2 r k) * b2 m c t (ix2 k ⟨j.val, by omega⟩) := by
  unfold outs hw zw
  rcases kinds t h0 with ⟨a, b, d, e⟩ | ⟨a, b, d, e⟩ | ⟨a, b, d, e⟩
  · rw [if_neg d, if_pos (show (t.val - 1) % 2 = 0 by omega), outsAt0_B m c t a b d e]
    dsimp only
    unfold sout0_B_2
    rw [proj_B]
    simp only [Memref.IsWhole.read_unread, read_unread_whole]
    exact read_all _ _ _ _ _ (zAll_all _ _ r j) (.inl (zAll_cover _ _ _))
  · rw [if_pos d, if_neg (show ¬(t.val - 1) % 2 = 0 by omega), outsAt0_C m c t a b d e]
    dsimp only
    unfold sout0_C_3
    rw [proj_C]
    simp only [Memref.IsWhole.read_unread, read_unread_whole]
    exact read_all _ _ _ _ _ (zAll_all _ _ r j) (.inl (zAll_cover _ _ _))
  · rw [if_pos d, if_neg (show ¬(t.val - 1) % 2 = 0 by omega), outsAt0_D m c t a b d e]
    dsimp only
    unfold sout0_D_3
    rw [proj_D]
    simp only [Memref.IsWhole.read_unread, read_unread_whole]
    exact read_all _ _ _ _ _ (zAll_all _ _ r j) (.inl (zAll_cover _ _ _))

/-- The grid has one axis, so a point's coordinate is its number. -/
theorem point_eq : ∀ t : Fin cfg0.N, (grid0.coords t 0).val = t.val := by decide +kernel

/-- **What a step writes to the attention result**, given that the projections of the step before
are a block of rows of the layer (`H`), that the mask's table is its 0/1 table, and that what the
step before carried are the keys and values of the rows just before. -/
theorem step_mix (t : Fin cfg0.N) (h0 : t.val ≠ 0)
    {P : Par} {n0 : ℕ} (H : Step P n0 (b0 m c t) (b3 m c t) (b5 m c t) (b6 m c t) (zw (prev m c t) (t.val - 1)))
    (hn : n0 % 4096 = 0 ↔ t.val % 16 = 2)
    (hx4 : ∀ (i : Fin 2) (r : Fin 128) (c' : Fin 256), b4 m c t (ix3 i r c')
      = if r.val < c'.val ∧ c'.val ≤ r.val + 128 ∧ (i.val = 0 ∨ 128 ≤ c'.val) then 0 else 1)
    (hK : t.val % 16 ≠ 2 → ∀ (g : Fin 4) (d : Fin 64) (c' : Fin 384), c'.val < 128 →
      (prev m c t).2.2.2.2.2.2.1 (ix3 g d c') = ((P.KB n0 g.val c'.val d.val : ℝ) : EReal))
    (hV : t.val % 16 ≠ 2 → ∀ (g : Fin 4) (c' : Fin 384) (l : Fin 128), c'.val < 128 →
      (prev m c t).2.2.2.2.2.2.2 (ix3 g c' l) = ((P.VB n0 g.val c'.val (l.val % 64) : ℝ) : EReal))
    (R : Fin 256) (J : Fin 1024) :
    (outs m c t).1 (ix2 R J) = ((P.Y (n0 + R.val) J.val : ℝ) : EReal) := by
  have hpt := point_eq t
  unfold zw at H
  unfold outs
  rcases kinds t h0 with ⟨a, b, d, e⟩ | ⟨a, b, d, e⟩ | ⟨a, b, d, e⟩
  · rw [if_pos (show (t.val - 1) % 2 = 0 by omega)] at H
    rw [outsAt0_B m c t a b d e]
    dsimp only
    unfold out0_B_7
    rw [mix_B]
    simp only [Memref.IsWhole.read_unread, read_unread_whole]
    exact read_all _ _ _ _ _ (H.mix _ _ _ _ _ _ _ _ (by rw [hpt]; exact hn) hx4
      (fun g d c' hc => by rw [read_unread_whole]; exact hK b g d c' hc)
      (fun g c' l hc => by rw [read_unread_whole]; exact hV b g c' l hc)
      (fun _ _ _ _ _ => View.allAt_nil _ _) (fun _ _ _ _ _ => View.allAt_nil _ _) R J) (.inl (mixAll_cover _ _ _ _ _ _ _ _ _ _ _ _ _ _))
  · rw [if_neg (show ¬(t.val - 1) % 2 = 0 by omega)] at H
    rw [outsAt0_C m c t a b d e]
    dsimp only
    unfold out0_C_7
    rw [mix_C]
    simp only [Memref.IsWhole.read_unread, read_unread_whole]
    exact read_all _ _ _ _ _ (H.mix _ _ _ _ _ _ _ _ (by rw [hpt]; exact hn) hx4
      (fun g d c' hc => by rw [zeroK_read _ _ _ _ hc]; unfold Par.KB; rw [if_pos ⟨hn.mpr b, hc⟩]; rfl)
      (fun g c' l hc => by rw [zeroV_read _ _ _ _ hc]; unfold Par.VB; rw [if_pos ⟨hn.mpr b, hc⟩]; rfl)
      Step.zeroK_at Step.zeroV_at R J) (.inl (mixAll_cover _ _ _ _ _ _ _ _ _ _ _ _ _ _))
  · rw [if_neg (show ¬(t.val - 1) % 2 = 0 by omega)] at H
    rw [outsAt0_D m c t a b d e]
    dsimp only
    unfold out0_D_7
    rw [mix_D]
    simp only [Memref.IsWhole.read_unread, read_unread_whole]
    exact read_all _ _ _ _ _ (H.mix _ _ _ _ _ _ _ _ (by rw [hpt]; exact hn) hx4
      (fun g d c' hc => by rw [read_unread_whole]; exact hK b g d c' hc)
      (fun g c' l hc => by rw [read_unread_whole]; exact hV b g c' l hc)
      (fun _ _ _ _ _ => View.allAt_nil _ _) (fun _ _ _ _ _ => View.allAt_nil _ _) R J) (.inl (mixAll_cover _ _ _ _ _ _ _ _ _ _ _ _ _ _))

/-- The keys a step carries to the next: those of its last 128 rows. -/
theorem step_carryK (t : Fin cfg0.N) (h0 : t.val ≠ 0)
    {P : Par} {n0 : ℕ} (H : Step P n0 (b0 m c t) (b3 m c t) (b5 m c t) (b6 m c t) (zw (prev m c t) (t.val - 1)))
    (g : Fin 4) (d' : Fin 64) (c' : Fin 384) (hc : c'.val < 128) :
    (outs m c t).2.2.2.2.2.2.1 (ix3 g d' c') = ((P.K (n0 + 128 + c'.val) g.val d'.val : ℝ) : EReal) := by
  unfold zw at H
  unfold outs
  rcases kinds t h0 with ⟨a, b, d, e⟩ | ⟨a, b, d, e⟩ | ⟨a, b, d, e⟩
  · rw [if_pos (show (t.val - 1) % 2 = 0 by omega)] at H
    rw [outsAt0_B m c t a b d e]
    dsimp only
    unfold sout0_B_4
    rw [keys_B]
    simp only [Memref.IsWhole.read_unread, read_unread_whole]
    exact H.carryK _ _ _ _ (fun _ _ _ _ _ => View.allAt_nil _ _) g d' c' hc
  · rw [if_neg (show ¬(t.val - 1) % 2 = 0 by omega)] at H
    rw [outsAt0_C m c t a b d e]
    dsimp only
    unfold sout0_C_4
    rw [keys_C]
    simp only [Memref.IsWhole.read_unread, read_unread_whole]
    exact H.carryK _ _ _ _ Step.zeroK_at g d' c' hc
  · rw [if_neg (show ¬(t.val - 1) % 2 = 0 by omega)] at H
    rw [outsAt0_D m c t a b d e]
    dsimp only
    unfold sout0_D_4
    rw [keys_D]
    simp only [Memref.IsWhole.read_unread, read_unread_whole]
    exact H.carryK _ _ _ _ (fun _ _ _ _ _ => View.allAt_nil _ _) g d' c' hc

/-- The values a step carries to the next: those of its last 128 rows. -/
theorem step_carryV (t : Fin cfg0.N) (h0 : t.val ≠ 0)
    {P : Par} {n0 : ℕ} (H : Step P n0 (b0 m c t) (b3 m c t) (b5 m c t) (b6 m c t) (zw (prev m c t) (t.val - 1)))
    (g : Fin 4) (c' : Fin 384) (l : Fin 128) (hc : c'.val < 128) :
    (outs m c t).2.2.2.2.2.2.2 (ix3 g c' l) = ((P.V (n0 + 128 + c'.val) g.val (l.val % 64) : ℝ) : EReal) := by
  unfold zw at H
  unfold outs
  rcases kinds t h0 with ⟨a, b, d, e⟩ | ⟨a, b, d, e⟩ | ⟨a, b, d, e⟩
  · rw [if_pos (show (t.val - 1) % 2 = 0 by omega)] at H
    rw [outsAt0_B m c t a b d e]
    dsimp only
    unfold sout0_B_5
    rw [vals_B]
    simp only [Memref.IsWhole.read_unread, read_unread_whole]
    exact H.carryV _ _ _ _ (fun _ _ _ _ _ => View.allAt_nil _ _) g c' l hc
  · rw [if_neg (show ¬(t.val - 1) % 2 = 0 by omega)] at H
    rw [outsAt0_C m c t a b d e]
    dsimp only
    unfold sout0_C_5
    rw [vals_C]
    simp only [Memref.IsWhole.read_unread, read_unread_whole]
    exact H.carryV _ _ _ _ Step.zeroV_at g c' l hc
  · rw [if_neg (show ¬(t.val - 1) % 2 = 0 by omega)] at H
    rw [outsAt0_D m c t a b d e]
    dsimp only
    unfold sout0_D_5
    rw [vals_D]
    simp only [Memref.IsWhole.read_unread, read_unread_whole]
    exact H.carryV _ _ _ _ (fun _ _ _ _ _ => View.allAt_nil _ _) g c' l hc

end Cert.KernelIdeal.Steps
-- ==== Proof.Blocks.lean ====
module

public import proofs.«01_k».proof.Proof.Steps
public import proofs.«01_k».proof.Proof.Gen.KernelIdeal.Value
public import Idealize.ShloMosaic.Lib.Pipeline.ValueKit.Point
public import Idealize.ShloMosaic.Lib.Claim

/-! # The blocks a step is given, as entries of the arguments -/

@[expose] public section

set_option maxRecDepth 16384

noncomputable section

namespace Cert.KernelIdeal.Steps

open Cert.KernelIdeal Cert.KernelIdeal.Gen Cert.KernelIdeal.Units Idealize.ShloMosaic Idealize.ShloMosaic.TcCoe Cert.RealMath Cert.Spec

variable (m : (ℓ : Loc nD τ sig) → Buf (Elt Ideal) ℓ) (c : Dev nD)

theorem index0 : ∀ t : Fin cfg0.N, win0_0.index t = ![0] := by decide +kernel
theorem index1 : ∀ t : Fin cfg0.N, win0_1.index t = ![min t.val 127, 0] := by decide +kernel
theorem index2 : ∀ t : Fin cfg0.N, win0_2.index t = ![0, 0] := by decide +kernel
theorem index3 : ∀ t : Fin cfg0.N, win0_3.index t = ![(t.val + 14) % 16, 0] := by decide +kernel
theorem index4 : ∀ t : Fin cfg0.N, win0_4.index t = ![0, 0, 0] := by decide +kernel
theorem index5 : ∀ t : Fin cfg0.N, win0_5.index t = ![0, 0] := by decide +kernel
theorem index6 : ∀ t : Fin cfg0.N, win0_6.index t = ![0, 0] := by decide +kernel
theorem index7 : ∀ t : Fin cfg0.N, win0_7.index t = ![t.val - 2, 0] := by decide +kernel
theorem index8 : ∀ t : Fin cfg0.N, win0_8.index t = ![min (t.val - 1) 127, 0] := by decide +kernel

theorem b0_apply (t : Fin cfg0.N) (h : Fin 16) : b0 m c t (ix1 h) = V m c main_v4 (ix1 h) := by
  blk_ext [iblk, index0 t]
theorem b1_apply (t : Fin cfg0.N) (r : Fin 256) (k : Fin 2048) :
    b1 m c t (ix2 r k) = V m c main_v5 (ix2 ⟨256 * min t.val 127 + r.val, by omega⟩ k) := by
  blk_ext [iblk, index1 t]
theorem b2_apply (t : Fin cfg0.N) (k : Fin 2048) (j : Fin 6656) : b2 m c t (ix2 k j) = V m c main_v19 (ix2 k j) := by
  blk_ext [iblk, index2 t]
theorem b3_apply (t : Fin cfg0.N) (r : Fin 256) (l : Fin 384) :
    b3 m c t (ix2 r l) = V m c main_v54 (ix2 ⟨256 * ((t.val + 14) % 16) + r.val, by omega⟩ l) := by
  blk_ext [iblk, index3 t]
theorem b4_apply (t : Fin cfg0.N) (i : Fin 2) (r : Fin 128) (k : Fin 256) :
    b4 m c t (ix3 i r k) = V m c main_v76 (ix3 i r k) := by
  blk_ext [iblk, index4 t]
theorem b5_apply (t : Fin cfg0.N) (l : Fin 128) : b5 m c t (ix2 0 l) = V m c main_v9 (ix2 0 l) := by
  blk_ext [iblk, index5 t]
theorem b6_apply (t : Fin cfg0.N) (l : Fin 128) : b6 m c t (ix2 0 l) = V m c main_v13 (ix2 0 l) := by
  blk_ext [iblk, index6 t]

end Cert.KernelIdeal.Steps
-- ==== Proof.Angle.lean ====
module

public import proofs.«01_k».proof.Proof.RealMath

/-! # The rotary angles

Position `n` turns the pair `j` of a head by the angle `ang n j`; both programs compute it by the same operations. -/

@[expose] public section

noncomputable section

namespace Cert.RealMath

open Idealize.ShloMosaic

/-- A position as a real number. -/
def place (n : ℕ) : ℝ := ((BitVec.ofNat 32 n).toInt : ℝ)

/-- The angle of position `n` at pair `j`. -/
def ang (n j : ℕ) : ℝ := place n * Real.rpow 500000 (-place j * 2 / 16)

theorem ofBits_one : Ideal.ofBits .f32 0x3F800000#32 = ((1 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_16 : Ideal.ofBits .f32 0x41800000#32 = ((16 : ℝ) : EReal) := by
  simp [Ideal.ofBits, Ideal.ieee, -EReal.coe_mul]; norm_num
theorem ofBits_theta : Ideal.ofBits .f32 0x48F42400#32 = ((500000 : ℝ) : EReal) := by
  simp [Ideal.ofBits, Ideal.ieee, -EReal.coe_mul]; norm_num

theorem place_eq (n : ℕ) : (FloatOps.sitofp (F := Ideal) .f32 (BitVec.ofNat 32 n) : EReal) = ((place n : ℝ) : EReal) := rfl

theorem ang_eq (n j : ℕ) : FloatOps.sitofp (F := Ideal) .f32 (BitVec.ofNat 32 n) *
        Ideal.pow (Ideal.ofBits FTy.f32 0x48F42400#32)
          (Ideal.div (-FloatOps.sitofp (F := Ideal) .f32 (BitVec.ofNat 32 j) * Ideal.ofBits FTy.f32 0x40000000#32)
            (Ideal.ofBits FTy.f32 0x41800000#32)) = ((ang n j : ℝ) : EReal) := by
  rw [place_eq, place_eq, ofBits_theta, ofBits_two, ofBits_16, ← EReal.coe_neg, ← EReal.coe_mul, div_coe _ _ (by norm_num),
    Ideal.pow_coe_coe, ← EReal.coe_mul]
  rfl

end Cert.RealMath
-- ==== Proof.Operands.lean ====
module

public import proofs.«01_k».proof.Proof.Reads
public import proofs.«01_k».proof.Proof.RealMath
public import proofs.«01_k».proof.Proof.Angle
public import proofs.«01_k».proof.Proof.Gen.KernelIdeal.Value
public import Idealize.ShloMosaic.Lib.Pipeline.ValueKit.Point
public import Idealize.ShloMosaic.Lib.Claim

/-! # What the call is given, as entries of the arguments -/

@[expose] public section

set_option maxRecDepth 16384

noncomputable section

namespace Cert.KernelIdeal.Operands

open Cert.KernelIdeal Cert.KernelIdeal.Gen Idealize.ShloMosaic Idealize.ShloMosaic.TcCoe Cert.RealMath Cert.KernelIdeal.Units

variable (m : (ℓ : Loc nD τ sig) → Buf (Elt Ideal) ℓ) (c : Dev nD)

/-- The arguments. -/
abbrev a0 : Vec Ideal S8x4096x2048 .f32 := m ((c : Thread nD τ).loc main_arg0)
abbrev a1 : Vec Ideal S1x2048 .f32 := m ((c : Thread nD τ).loc main_arg1)
abbrev a2 : Vec Ideal S1x2048x6656 .f32 := m ((c : Thread nD τ).loc main_arg2)
abbrev a3 : Vec Ideal S1x64 .f32 := m ((c : Thread nD τ).loc main_arg3)
abbrev a4 : Vec Ideal S1x64 .f32 := m ((c : Thread nD τ).loc main_arg4)
abbrev a5 : Vec Ideal S1x16 .f32 := m ((c : Thread nD τ).loc main_arg5)

theorem v4_apply (h : Fin 16) : (V m c main_v4 : Vec Ideal S16 .f32) (ix1 h) = a5 m c (ix2 0 h) := by
  unfold V
  simp only [hostOps0, hostOps0_1, hostOps0_2, List.flatten_cons, List.flatten_nil, List.append_nil, List.cons_append, List.nil_append]
  entry_read
  pointwise
theorem v5_apply (n : Fin 32768) (k : Fin 2048) : (V m c main_v5 : Vec Ideal S32768x2048 .f32) (ix2 n k)
    = a0 m c (ix3 ⟨n.val / 4096, by omega⟩ ⟨n.val % 4096, by omega⟩ k) := by
  unfold V
  simp only [hostOps0, hostOps0_1, hostOps0_2, List.flatten_cons, List.flatten_nil, List.append_nil, List.cons_append, List.nil_append]
  entry_read
  pointwise
theorem v9_apply (l : Fin 128) : (V m c main_v9 : Vec Ideal S1x128 .f32) (ix2 0 l) = a3 m c (ix2 0 ⟨l.val % 64, by omega⟩) := by
  unfold V
  simp only [hostOps0, hostOps0_1, hostOps0_2, List.flatten_cons, List.flatten_nil, List.append_nil, List.cons_append, List.nil_append]
  entry_read
  pointwise
theorem v13_apply (l : Fin 128) : (V m c main_v13 : Vec Ideal S1x128 .f32) (ix2 0 l) = a4 m c (ix2 0 ⟨l.val % 64, by omega⟩) := by
  unfold V
  simp only [hostOps0, hostOps0_1, hostOps0_2, List.flatten_cons, List.flatten_nil, List.append_nil, List.cons_append, List.nil_append]
  entry_read
  pointwise

/-- The scale of a column of the input projection: a half for the two gates, one for the rest. -/
def half (j : ℕ) : ℝ := if j < 1536 then 1 else if j < 2560 then 1 / 2 else if j < 5632 then 1 else 1 / 2

theorem scale_word : ∀ j : Fin 6656, lit0 (S1x6656.rowMajor (ix2 0 j))
    = if j.val < 1536 then 0x3F800000#32 else if j.val < 2560 then 0x3F000000#32 else if j.val < 5632 then 0x3F800000#32 else 0x3F000000#32 := by
  decide +kernel

theorem v19_apply (k : Fin 2048) (j : Fin 6656) : (V m c main_v19 : Vec Ideal S2048x6656 .bf16) (ix2 k j)
    = a2 m c (ix3 0 k j) * a1 m c (ix2 0 k) * ((half j.val : ℝ) : EReal) := by
  unfold V
  simp only [hostOps0, hostOps0_1, hostOps0_2, List.flatten_cons, List.flatten_nil, List.append_nil, List.cons_append, List.nil_append]
  entry_read
  pointwise
  rw [scale_word]
  congr 1
  unfold half
  split_ifs <;> first | exact ofBits_one | exact ofBits_half

theorem bit_gt : ∀ a b : ℕ, a < 256 → b < 128 → IntOp.cmpi .sgt (BitVec.ofNat 32 a) (BitVec.ofNat 32 b) = if b < a then 1#1 else 0#1 := by
  intro a b ha hb
  have h : ∀ (x : Fin 256) (y : Fin 128), IntOp.cmpi .sgt (BitVec.ofNat 32 x.val) (BitVec.ofNat 32 y.val)
    = if y.val < x.val then 1#1 else 0#1 := by decide +kernel
  exact h ⟨a, ha⟩ ⟨b, hb⟩
theorem bit_le : ∀ a b : ℕ, a < 256 → b < 128 → IntOp.cmpi .sle (BitVec.ofNat 32 a) (IntOp.addi (BitVec.ofNat 32 b) 128#32)
    = if a ≤ b + 128 then 1#1 else 0#1 := by
  intro a b ha hb
  have h : ∀ (x : Fin 256) (y : Fin 128), IntOp.cmpi .sle (BitVec.ofNat 32 x.val) (IntOp.addi (BitVec.ofNat 32 y.val) 128#32)
    = if x.val ≤ y.val + 128 then 1#1 else 0#1 := by decide +kernel
  exact h ⟨a, ha⟩ ⟨b, hb⟩
theorem bit_ge : ∀ a : ℕ, a < 256 → IntOp.cmpi .sge (BitVec.ofNat 32 a) 128#32 = if 128 ≤ a then 1#1 else 0#1 := by
  intro a ha
  have h : ∀ x : Fin 256, IntOp.cmpi .sge (BitVec.ofNat 32 x.val) 128#32 = if 128 ≤ x.val then 1#1 else 0#1 := by decide +kernel
  exact h ⟨a, ha⟩

theorem v74_apply (i : Fin 2) (r : Fin 128) (c' : Fin 256) : (V m c main_v74 : Vec Ideal S2x128x256 .i1) (ix3 i r c')
      = if r.val < c'.val ∧ c'.val ≤ r.val + 128 ∧ (i.val = 0 ∨ 128 ≤ c'.val) then 1#1 else 0#1 := by
  unfold V
  simp only [hostOps0, hostOps0_1, hostOps0_2, List.flatten_cons, List.flatten_nil, List.append_nil, List.cons_append, List.nil_append]
  entry_read
  pointwise
  rw [bit_gt _ _ c'.isLt r.isLt, bit_le _ _ c'.isLt r.isLt, bit_ge _ c'.isLt]
  have : i.val < 2 := i.isLt
  split_ifs <;> first | rfl | omega

theorem choose_apply (M : Vec Ideal S2x128x256 .i1) (y : S2x128x256.Idx) :
    (select M (broadcastInDim S2x128x256 ![] bcast_S_S2x128x256 (constant (F := Ideal) S_ .f32 0#32))
    (broadcastInDim S2x128x256 ![] bcast_S_S2x128x256 (constant (F := Ideal) S_ .f32 1065353216#32)) : Vec Ideal S2x128x256 .f32) y
    = if M y = 1#1 then (0 : EReal) else (1 : EReal) := by
  pointwise
  rfl

theorem v76_eq : (V m c main_v76 : Vec Ideal S2x128x256 .f32) =
    select (V m c main_v74 : Vec Ideal S2x128x256 .i1) (broadcastInDim S2x128x256 ![] bcast_S_S2x128x256 (constant (F := Ideal) S_ .f32 0#32))
    (broadcastInDim S2x128x256 ![] bcast_S_S2x128x256 (constant (F := Ideal) S_ .f32 1065353216#32)) := by
  unfold V
  simp only [hostOps0, hostOps0_1, hostOps0_2, List.flatten_cons, List.flatten_nil, List.append_nil, List.cons_append, List.nil_append]
  entry_read
  simp only [StableHlo.TRef.ofBuf_toBuf]
  rfl

theorem v76_apply (i : Fin 2) (r : Fin 128) (c' : Fin 256) : (V m c main_v76 : Vec Ideal S2x128x256 .f32) (ix3 i r c')
      = if r.val < c'.val ∧ c'.val ≤ r.val + 128 ∧ (i.val = 0 ∨ 128 ≤ c'.val) then (0 : EReal) else (1 : EReal) := by
  rw [v76_eq, choose_apply, v74_apply]
  split_ifs <;> first | rfl | simp_all

end Cert.KernelIdeal.Operands
-- ==== Proof.Tables.lean ====
module

public import proofs.«01_k».proof.Proof.Reads
public import proofs.«01_k».proof.Proof.RealMath
public import proofs.«01_k».proof.Proof.Angle
public import proofs.«01_k».proof.Proof.Gen.KernelIdeal.Value
public import Idealize.ShloMosaic.Lib.Pipeline.ValueKit.Point
public import Idealize.ShloMosaic.Lib.Claim
public import Idealize.ShloMosaic.Lib.StableHlo.RunRead

/-! # The rotary tables the call is given -/

@[expose] public section

set_option maxRecDepth 16384

noncomputable section

namespace Cert.KernelIdeal.Operands

open Cert.KernelIdeal Cert.KernelIdeal.Gen Idealize.ShloMosaic Idealize.ShloMosaic.TcCoe Cert.RealMath Cert.KernelIdeal.Units

variable (m : (ℓ : Loc nD τ sig) → Buf (Elt Ideal) ℓ) (c : Dev nD)

theorem tile_apply (A : Vec Ideal S4096x64 .f32) (n : Fin 4096) (l : Fin 128) :
    (shapeCast S4096x128 (broadcastInDim S1x4096x2x64 ![0, 1, 2, 3] bcast_S1x4096x1x64_S1x4096x2x64_0_1_2_3
      (shapeCast S1x4096x1x64 A shapeCasts_S4096x64_S1x4096x1x64 : Vec Ideal S1x4096x1x64 .f32) : Vec Ideal S1x4096x2x64 .f32)
      shapeCasts_S1x4096x2x64_S4096x128 : Vec Ideal S4096x128 .f32) (ix2 n l) = A (ix2 n ⟨l.val % 64, by omega⟩) := by
  pointwise

theorem cat_a (A B C : Vec Ideal S4096x128 .f32) (n : Fin 4096) (l : Fin 128) :
    (concatenate (α := Elt Ideal .f32) S4096x384 1 [⟨S4096x128, A⟩, ⟨S4096x128, B⟩, ⟨S4096x128, C⟩]
      concatenates_S4096x128_S4096x128_S4096x128_S4096x384_d1) (ix2 n ⟨l.val, by omega⟩) = A (ix2 n l) := by
  pointwise
theorem cat_b (A B C : Vec Ideal S4096x128 .f32) (n : Fin 4096) (l : Fin 128) :
    (concatenate (α := Elt Ideal .f32) S4096x384 1 [⟨S4096x128, A⟩, ⟨S4096x128, B⟩, ⟨S4096x128, C⟩]
      concatenates_S4096x128_S4096x128_S4096x128_S4096x384_d1) (ix2 n ⟨128 + l.val, by omega⟩) = B (ix2 n l) := by
  pointwise
theorem cat_c (A B C : Vec Ideal S4096x128 .f32) (n : Fin 4096) (l : Fin 128) :
    (concatenate (α := Elt Ideal .f32) S4096x384 1 [⟨S4096x128, A⟩, ⟨S4096x128, B⟩, ⟨S4096x128, C⟩]
      concatenates_S4096x128_S4096x128_S4096x128_S4096x384_d1) (ix2 n ⟨256 + l.val, by omega⟩) = C (ix2 n l) := by
  pointwise
  rw [dif_neg (by omega), dif_neg (by omega)]
  exact congrArg (fun k => C (ix2 n k)) (Fin.ext (by show 256 + l.val - 128 - 128 = l.val; omega))

/-- The first table of a head: the cosines twice, then ones. -/
theorem cosines (n : Fin 4096) (l : Fin 64) (A : Vec Ideal S4096x8 .f32) (B : Vec Ideal S4096x48 .f32)
    (hA : ∀ j : Fin 8, A (ix2 n j) = ((Real.cos (ang n.val j.val) : ℝ) : EReal)) (hB : ∀ j : Fin 48, B (ix2 n j) = ((1 : ℝ) : EReal)) :
    (concatenate (α := Elt Ideal .f32) S4096x64 1 [⟨S4096x8, A⟩, ⟨S4096x8, A⟩, ⟨S4096x48, B⟩] concatenates_S4096x8_S4096x8_S4096x48_S4096x64_d1) (ix2 n l)
      = ((tabA (fun j => Real.cos (ang n.val j)) l.val : ℝ) : EReal) := by
  pointwise
  have hl : l.val % 64 = l.val := Nat.mod_eq_of_lt l.isLt
  unfold tabA
  rw [hl]
  by_cases h1 : l.val < 8
  · rw [dif_pos h1, if_pos h1, hA]
  rw [dif_neg h1, if_neg h1]
  by_cases h2 : l.val < 16
  · rw [dif_pos (by omega), if_pos h2, hA]
  · rw [dif_neg (by omega), if_neg h2, hB]

/-- The second table of a head: the sines negated, then zeros. -/
theorem minusSines (n : Fin 4096) (l : Fin 64) (A : Vec Ideal S4096x8 .f32) (B : Vec Ideal S4096x56 .f32)
    (hA : ∀ j : Fin 8, A (ix2 n j) = ((-Real.sin (ang n.val j.val) : ℝ) : EReal)) (hB : ∀ j : Fin 56, B (ix2 n j) = ((0 : ℝ) : EReal)) :
    (concatenate (α := Elt Ideal .f32) S4096x64 1 [⟨S4096x8, A⟩, ⟨S4096x56, B⟩] concatenates_S4096x8_S4096x56_S4096x64_d1) (ix2 n l)
      = ((tabB (fun j => Real.sin (ang n.val j)) l.val : ℝ) : EReal) := by
  pointwise
  have hl : l.val % 64 = l.val := Nat.mod_eq_of_lt l.isLt
  unfold tabB
  rw [hl]
  by_cases h1 : l.val < 8
  · rw [dif_pos h1, if_pos h1, hA]
  · rw [dif_neg h1, if_neg h1, hB]

/-- The third table of a head: zeros, the sines, then zeros. -/
theorem sines (n : Fin 4096) (l : Fin 64) (A B : Vec Ideal S4096x8 .f32) (C : Vec Ideal S4096x48 .f32)
    (hA : ∀ j : Fin 8, A (ix2 n j) = ((Real.sin (ang n.val j.val) : ℝ) : EReal)) (hB : ∀ j : Fin 8, B (ix2 n j) = ((0 : ℝ) : EReal))
    (hC : ∀ j : Fin 48, C (ix2 n j) = ((0 : ℝ) : EReal)) :
    (concatenate (α := Elt Ideal .f32) S4096x64 1 [⟨S4096x8, B⟩, ⟨S4096x8, A⟩, ⟨S4096x48, C⟩] concatenates_S4096x8_S4096x8_S4096x48_S4096x64_d1) (ix2 n l)
      = ((tabC (fun j => Real.sin (ang n.val j)) l.val : ℝ) : EReal) := by
  pointwise
  have hl : l.val % 64 = l.val := Nat.mod_eq_of_lt l.isLt
  unfold tabC
  rw [hl]
  by_cases h1 : l.val < 8
  · rw [dif_pos h1, if_pos h1, hB]
  rw [dif_neg h1, if_neg h1]
  by_cases h2 : l.val < 16
  · rw [dif_pos (by omega), if_pos h2, hA]
  · rw [dif_neg (by omega), if_neg h2, hC]

theorem tab_mod (f : ℕ → ℝ) (l : ℕ) : tabA f (l % 64) = tabA f l ∧ tabB f (l % 64) = tabB f l ∧ tabC f (l % 64) = tabC f l := by
  unfold tabA tabB tabC
  rw [Nat.mod_mod]
  exact ⟨rfl, rfl, rfl⟩

/-- The first third of the table operand: the cosines. -/
theorem v54_a (n : Fin 4096) (l : Fin 128) : (V m c main_v54 : Vec Ideal S4096x384 .f32) (ix2 n ⟨l.val, by omega⟩) = ((tabA (fun j => Real.cos (ang n.val j)) l.val : ℝ) : EReal) := by
  unfold V
  after_reads_simp
  dsimp only [Matrix.cons_val_zero, Matrix.cons_val_one, Matrix.cons_val]
  refine (cat_a _ _ _ n l).trans ?_
  after_reads_simp
  dsimp only [Matrix.cons_val_zero, Matrix.cons_val_one, Matrix.cons_val]
  refine (tile_apply _ n l).trans ((cosines n _ _ _ (fun j => ?_) fun j => ?_).trans (by rw [(tab_mod _ _).1]))
  · after_reads_simp
    pointwise
    exact congrArg Ideal.cos (ang_eq n.val j.val)
  · after_reads_simp
    pointwise
    rfl

/-- The middle third: the sines of the first half, negated. -/
theorem v54_b (n : Fin 4096) (l : Fin 128) : (V m c main_v54 : Vec Ideal S4096x384 .f32) (ix2 n ⟨128 + l.val, by omega⟩) = ((tabB (fun j => Real.sin (ang n.val j)) l.val : ℝ) : EReal) := by
  unfold V
  after_reads_simp
  dsimp only [Matrix.cons_val_zero, Matrix.cons_val_one, Matrix.cons_val]
  refine (cat_b _ _ _ n l).trans ?_
  after_reads_simp
  refine (tile_apply _ n l).trans ((minusSines n _ _ _ (fun j => ?_) fun j => ?_).trans (by rw [(tab_mod _ _).2.1]))
  · after_reads_simp
    pointwise
    exact congrArg (fun x => -x) (congrArg Ideal.sin (ang_eq n.val j.val))
  · after_reads_simp
    pointwise
    rfl

/-- The last third: the sines of the second half. -/
theorem v54_c (n : Fin 4096) (l : Fin 128) : (V m c main_v54 : Vec Ideal S4096x384 .f32) (ix2 n ⟨256 + l.val, by omega⟩) = ((tabC (fun j => Real.sin (ang n.val j)) l.val : ℝ) : EReal) := by
  unfold V
  after_reads_simp
  dsimp only [Matrix.cons_val_zero, Matrix.cons_val_one, Matrix.cons_val]
  refine (cat_c _ _ _ n l).trans ?_
  after_reads_simp
  dsimp only [Matrix.cons_val_zero, Matrix.cons_val_one, Matrix.cons_val]
  refine (tile_apply _ n l).trans ((sines n _ _ _ _ (fun j => ?_) (fun j => ?_) fun j => ?_).trans (by rw [(tab_mod _ _).2.2]))
  · after_reads_simp
    pointwise
    exact congrArg Ideal.sin (ang_eq n.val j.val)
  · after_reads_simp
    pointwise
    rfl
  · after_reads_simp
    pointwise
    rfl

end Cert.KernelIdeal.Operands
-- ==== Proof.Inputs.lean ====
module

public import proofs.«01_k».proof.Proof.Spec
public import proofs.«01_k».proof.Proof.Angle

/-! # The real numbers behind the arguments

The gains, the matrix and the sinks are real numbers (`IsReal`). The rows of `x` need not be: a normed row is real whatever
the row is. -/

@[expose] public section

noncomputable section

namespace Cert.Spec

open Idealize.ShloMosaic Cert.RealMath

/-- Every entry of an array is a real number. -/
def IsReal {S : Shape} (v : S.Idx → EReal) : Prop := ∀ i, ((v i).toReal : EReal) = v i

/-- A row times the reciprocal root of its mean square. -/
def rowNorm (x : Fin 2048 → EReal) (k : Fin 2048) : EReal :=
  x k * Ideal.rsqrt (Ideal.div (∑ i, x i * x i) ((2048 : ℝ) : EReal) + (eps : EReal))

variable (X : (⟨3, ![8, 4096, 2048]⟩ : Shape).Idx → EReal) (G : (⟨2, ![1, 2048]⟩ : Shape).Idx → EReal)
  (W : (⟨3, ![1, 2048, 6656]⟩ : Shape).Idx → EReal) (Gq Gk : (⟨2, ![1, 64]⟩ : Shape).Idx → EReal)
  (A : (⟨2, ![1, 16]⟩ : Shape).Idx → EReal)

/-- Token `n`'s row. -/
def xrow (n : ℕ) (i : Fin 2048) : EReal := X (ix3 ⟨n / 4096 % 8, by omega⟩ ⟨n % 4096, by omega⟩ i)

/-- Token `n`'s normed row, in real numbers. -/
def HX (n : ℕ) (k : Fin 2048) : ℝ := (rowNorm (xrow X n) k).toReal

theorem rowNorm_eq (n : ℕ) (k : Fin 2048) : rowNorm (xrow X n) k = ((HX X n k : ℝ) : EReal) :=
  (scaled_real (xrow X n) 2048 (by norm_num) k).symm

/-- The attention's inputs. -/
def par : Par where
  Z n j := ∑ k : Fin 2048, HX X n k * ((W (ix3 0 k ⟨j % 6656, by omega⟩)).toReal * (G (ix2 0 k)).toReal)
  Gq d := (Gq (ix2 0 ⟨d % 64, by omega⟩)).toReal
  Gk d := (Gk (ix2 0 ⟨d % 64, by omega⟩)).toReal
  cs n j := Real.cos (ang n j)
  sn n j := Real.sin (ang n j)
  a h := (A (ix2 0 ⟨h % 16, by omega⟩)).toReal

/-- The projection of a normed row, with the gain in the matrix and a column scale `s`. -/
theorem dot_scaled (hG : IsReal G) (hW : IsReal W) (n : ℕ) (j : Fin 6656) (s : ℝ) :
    (∑ k : Fin 2048, ((HX X n k : ℝ) : EReal) * (W (ix3 0 k j) * G (ix2 0 k) * (s : EReal)))
      = ((s * (par X G W Gq Gk A).Z n j.val : ℝ) : EReal) := by
  rw [sum_eq_coe _ (fun k => s * (HX X n k * ((W (ix3 0 k j)).toReal * (G (ix2 0 k)).toReal))) fun k => by
    rw [← hW (ix3 0 k j), ← hG (ix2 0 k), ← EReal.coe_mul, ← EReal.coe_mul, ← EReal.coe_mul, EReal.toReal_coe, EReal.toReal_coe]
    congr 1; ring]
  rw [← Finset.mul_sum]
  simp only [par, Nat.mod_eq_of_lt j.isLt]

/-- The projection of a normed row times the gain. -/
theorem dot_gain (hG : IsReal G) (hW : IsReal W) (n : ℕ) (j : Fin 6656) :
    (∑ k : Fin 2048, ((HX X n k : ℝ) : EReal) * G (ix2 0 k) * W (ix3 0 k j))
      = (((par X G W Gq Gk A).Z n j.val : ℝ) : EReal) := by
  rw [sum_eq_coe _ (fun k => HX X n k * ((W (ix3 0 k j)).toReal * (G (ix2 0 k)).toReal)) fun k => by
    rw [← hW (ix3 0 k j), ← hG (ix2 0 k), ← EReal.coe_mul, ← EReal.coe_mul, EReal.toReal_coe, EReal.toReal_coe]
    congr 1; ring]
  simp only [par, Nat.mod_eq_of_lt j.isLt]

end Cert.Spec
-- ==== Proof.State.lean ====
module

public import proofs.«01_k».proof.Proof.Blocks
public import proofs.«01_k».proof.Proof.Operands
public import proofs.«01_k».proof.Proof.Tables
public import proofs.«01_k».proof.Proof.Inputs

/-! # What the scratch and the output blocks hold after each step

Step `t` norms block `min t 127`, projects block `min (t - 1) 127` and attends from block `t - 2`, a block being 256 tokens. -/

@[expose] public section

set_option maxRecDepth 16384

noncomputable section

namespace Cert.KernelIdeal.Steps

open Cert.KernelIdeal Cert.KernelIdeal.Gen Cert.KernelIdeal.Units Cert.KernelIdeal.Operands Idealize.ShloMosaic
open Idealize.ShloMosaic.TcCoe Cert.RealMath Cert.Spec

variable (m : (ℓ : Loc nD τ sig) → Buf (Elt Ideal) ℓ) (c : Dev nD)

/-- The real inputs behind the call's arguments. -/
abbrev pr : Par := par (a0 m c) (a1 m c) (a2 m c) (a3 m c) (a4 m c) (a5 m c)

/-- The arguments that have to be real are. -/
structure Real : Prop where
  g : IsReal (S := S1x2048) (a1 m c)
  w : IsReal (S := S1x2048x6656) (a2 m c)
  q : IsReal (S := S1x64) (a3 m c)
  k : IsReal (S := S1x64) (a4 m c)
  s : IsReal (S := S1x16) (a5 m c)

/-- The normed rows after step `t`. -/
theorem norm_at (t : Fin cfg0.N) (r : Fin 256) (k : Fin 2048) :
    hw (outs m c t) t.val (ix2 r k) = ((HX (a0 m c) (256 * min t.val 127 + r.val) k : ℝ) : EReal) := by
  have ht : t.val < 130 := t.isLt
  rw [step_norm, ← rowNorm_eq]
  show rowNorm (fun i => b1 m c t (ix2 r i)) k = _
  congr 1
  funext i
  rw [b1_apply]
  refine (v5_apply m c _ _).trans ?_
  unfold xrow
  congr 2
  apply Fin.ext
  have := r.isLt
  show (256 * min t.val 127 + r.val) / 4096 = (256 * min t.val 127 + r.val) / 4096 % 8
  omega

variable (R : Real m c)
include R

/-- The matrix's columns against the rows normed by the step before. -/
theorem dot_at (t : Fin cfg0.N) (h0 : t.val ≠ 0) (r : Fin 256) (j : Fin 6656) :
    (∑ k : Fin 2048, hw (prev m c t) (t.val - 1) (ix2 r k) * b2 m c t (ix2 k j))
      = ((half j.val * (pr m c).Z (256 * min (t.val - 1) 127 + r.val) j.val : ℝ) : EReal) := by
  rw [← dot_scaled (a0 m c) (a1 m c) (a2 m c) (a3 m c) (a4 m c) (a5 m c) R.g R.w]
  refine Finset.sum_congr rfl fun k _ => ?_
  rw [b2_apply]
  exact congrArg₂ (· * ·) (norm_at m c ⟨t.val - 1, Nat.lt_of_le_of_lt (Nat.sub_le _ _) t.isLt⟩ r k) (v19_apply m c k j)

/-- The projected rows after step `t`. -/
theorem proj_at (t : Fin cfg0.N) (h0 : t.val ≠ 0) (r : Fin 256) (j : Fin 2560) :
    zw (outs m c t) t.val (ix2 r j)
      = ((if j.val < 1536 then (pr m c).Z (256 * min (t.val - 1) 127 + r.val) j.val
          else (pr m c).Z (256 * min (t.val - 1) 127 + r.val) j.val / 2 : ℝ) : EReal) := by
  rw [step_proj m c t h0, dot_at m c R t h0]
  congr 1
  unfold half
  dsimp only
  have := j.isLt
  split_ifs <;> first | ring | omega

/-- The second output block after step `t`. -/
theorem conv_at (t : Fin cfg0.N) (h0 : t.val ≠ 0) (r : Fin 256) (j : Fin 4096) :
    (outs m c t).2.1 (ix2 r j)
      = ((half (2560 + j.val) * (pr m c).Z (256 * min (t.val - 1) 127 + r.val) (2560 + j.val) : ℝ) : EReal) := by
  rw [step_conv m c t h0, dot_at m c R t h0]

/-- Step `t ≥ 2` has the real inputs of block `t - 2`. -/
theorem inputs_at (t : Fin cfg0.N) (h2 : 2 ≤ t.val) :
    Step (pr m c) (256 * (t.val - 2)) (b0 m c t) (b3 m c t) (b5 m c t) (b6 m c t) (zw (prev m c t) (t.val - 1)) := by
  have ht : t.val < 130 := t.isLt
  have hrow : ∀ r : Fin 256, 256 * ((t.val + 14) % 16) + r.val = (256 * (t.val - 2) + r.val) % 4096 := fun r => by
    have := r.isLt; omega
  refine ⟨by omega, fun r j => ?_, fun r l => ?_, fun r l => ?_, fun r l => ?_, fun l => ?_, fun l => ?_, fun h => ?_⟩
  · have := proj_at m c R ⟨t.val - 1, Nat.lt_of_le_of_lt (Nat.sub_le _ _) t.isLt⟩ (show t.val - 1 ≠ 0 by omega) r j
    rw [show min (t.val - 1 - 1) 127 = t.val - 2 by omega] at this
    exact this
  · rw [b3_apply]
    refine (v54_a m c ⟨_, by omega⟩ l).trans ?_
    simp only [hrow]
    rfl
  · rw [b3_apply]
    refine (v54_b m c ⟨_, by omega⟩ l).trans ?_
    simp only [hrow]
    rfl
  · rw [b3_apply]
    refine (v54_c m c ⟨_, by omega⟩ l).trans ?_
    simp only [hrow]
    rfl
  · rw [b5_apply]
    refine (v9_apply m c l).trans ((R.q _).symm.trans ?_)
    simp only [par, Nat.mod_mod]
  · rw [b6_apply]
    refine (v13_apply m c l).trans ((R.k _).symm.trans ?_)
    simp only [par, Nat.mod_mod]
  · rw [b0_apply]
    refine (v4_apply m c h).trans ((R.s _).symm.trans ?_)
    simp only [par, Nat.mod_eq_of_lt h.isLt]

/-- The first output block after step `t ≥ 2`. -/
theorem mix_at (t : Fin cfg0.N) (h2 : 2 ≤ t.val) (r : Fin 256) (j : Fin 1024) :
    (outs m c t).1 (ix2 r j) = (((pr m c).Y (256 * (t.val - 2) + r.val) j.val : ℝ) : EReal) := by
  have ht : t.val < 130 := t.isLt
  refine step_mix m c t (by omega) (inputs_at m c R t h2) (by omega)
    (fun i r c' => (b4_apply m c t i r c').trans (v76_apply m c i r c')) (fun h g d c' hc => ?_) (fun h g c' l hc => ?_) r j
  · have h3 : 3 ≤ t.val := by omega
    refine (step_carryK m c ⟨t.val - 1, Nat.lt_of_le_of_lt (Nat.sub_le _ _) t.isLt⟩ (show t.val - 1 ≠ 0 by omega)
      (inputs_at m c R _ (show 2 ≤ t.val - 1 by omega)) g d c' hc).trans ?_
    unfold Par.KB
    rw [if_neg (by omega)]
    congr 2
    show 256 * (t.val - 1 - 2) + 128 + c'.val = _
    omega
  · have h3 : 3 ≤ t.val := by omega
    refine (step_carryV m c ⟨t.val - 1, Nat.lt_of_le_of_lt (Nat.sub_le _ _) t.isLt⟩ (show t.val - 1 ≠ 0 by omega)
      (inputs_at m c R _ (show 2 ≤ t.val - 1 by omega)) g c' l hc).trans ?_
    unfold Par.VB
    rw [if_neg (by omega)]
    congr 2
    show 256 * (t.val - 1 - 2) + 128 + c'.val = _
    omega

end Cert.KernelIdeal.Steps
-- ==== Proof.Results.lean ====
module

public import proofs.«01_k».proof.Proof.State

/-! # The two result arrays after the run

Block `b` of the first result is written back after step `b + 2`, block `b` of the second after step `b + 1` (the last once
more after step 129, unchanged). -/

@[expose] public section

set_option maxRecDepth 16384

noncomputable section

namespace Cert.KernelIdeal.Steps

open Cert.KernelIdeal Cert.KernelIdeal.Gen Cert.KernelIdeal.Units Cert.KernelIdeal.Operands Idealize.ShloMosaic
open Idealize.ShloMosaic.TcCoe Cert.RealMath Cert.Spec

variable (m : (ℓ : Loc nD τ sig) → Buf (Elt Ideal) ℓ) (c : Dev nD)

/-- The gated attention of every token. -/
def mixed (P : Par) : (⟨2, ![32768, 1024]⟩ : Shape).Idx → EReal := fun i => ((P.Y (i 0).val (i 1).val : ℝ) : EReal)

/-- The convolution's input of every token: the last 4096 columns, the last 1024 of them halved. -/
def convIn (P : Par) : (⟨2, ![32768, 4096]⟩ : Shape).Idx → EReal := fun i =>
  ((half (2560 + (i 1).val) * P.Z (i 0).val (2560 + (i 1).val) : ℝ) : EReal)

theorem flush7 : ∀ t : Fin cfg0.N, (cfg0.win 7).flush t = true → 2 ≤ t.val := by decide +kernel
theorem flush8 : ∀ t : Fin cfg0.N, (cfg0.win 8).flush t = true → t.val ≠ 0 := by decide +kernel

variable (R : Real m c)
include R

theorem result7 : (dats m 0 c).arrAt 7 cfg0.N = mixed (pr m c) := by
  refine (dats m 0 c).arrAt_eq_of_covers 7 _ (by decide +kernel) fun t hf y => ?_
  have h2 := flush7 t hf
  have ht : t.val < 130 := t.isLt
  blk_simp
  rw [after0_7]
  have hr : (y 0).val < 256 := (y 0).isLt
  have hj : (y 1).val < 1024 := (y 1).isLt
  have e : (win0_7.blk t).view.emb y = ix2 ⟨256 * (t.val - 2) + (y 0).val, by omega⟩ ⟨(y 1).val, hj⟩ := by
    blk_ext [index7 t]
  rw [e]
  exact (congrArg (outs m c t).1 (eq_ix2 (n0 := 256) (n1 := 1024) y)).trans (mix_at m c R t h2 (y 0) (y 1))

theorem result8 : (dats m 0 c).arrAt 8 cfg0.N = convIn (pr m c) := by
  refine (dats m 0 c).arrAt_eq_of_covers 8 _ (by decide +kernel) fun t hf y => ?_
  have h0 := flush8 t hf
  have ht : t.val < 130 := t.isLt
  blk_simp
  rw [after0_8]
  have hr : (y 0).val < 256 := (y 0).isLt
  have hj : (y 1).val < 4096 := (y 1).isLt
  have e : (win0_8.blk t).view.emb y = ix2 ⟨256 * min (t.val - 1) 127 + (y 0).val, by omega⟩ ⟨(y 1).val, hj⟩ := by
    blk_ext [index8 t]
  rw [e]
  exact (congrArg (outs m c t).2.1 (eq_ix2 (n0 := 256) (n1 := 4096) y)).trans (conv_at m c R t h0 (y 0) (y 1))

end Cert.KernelIdeal.Steps
-- ==== Proof.RefRows.lean ====
module

public import proofs.«01_k».proof.Proof.Inputs
public import proofs.«01_k».proof.Proof.Gen.ReferenceIdeal.Read
public import Idealize.ShloMosaic.Lib.Pointwise

/-! # The reference's rows, projections and heads, over the real numbers -/

@[expose] public section

set_option maxRecDepth 16384

noncomputable section

namespace Cert.ReferenceIdeal.Rows

open Cert.ReferenceIdeal Cert.ReferenceIdeal.Gen Cert.ReferenceIdeal.Read Idealize.ShloMosaic Cert.RealMath Cert.Spec

variable (x0 : Vec Ideal S8x4096x2048 .f32) (x1 : Vec Ideal S1x2048 .f32) (x2 : Vec Ideal S1x2048x6656 .f32)
  (x3 x4 : Vec Ideal S1x64 .f32) (x5 : Vec Ideal S1x16 .f32)

/-- The number of token `s` of sequence `b`. -/
abbrev tok (b : Fin 8) (s : Fin 4096) : ℕ := 4096 * b.val + s.val

theorem xrow_tok (b : Fin 8) (s : Fin 4096) (k : Fin 2048) : xrow x0 (tok b s) k = x0 (ix3 b s k) := by
  unfold xrow
  congr 2 <;> apply Fin.ext <;> simp only [tok] <;> omega

/-- A normed row times the gain. -/
theorem row (b : Fin 8) (s : Fin 4096) (k : Fin 2048) :
    val_main_v14 (F := Ideal) x0 x1 (ix3 b s k) = ((HX x0 (tok b s) k : ℝ) : EReal) * x1 (ix2 0 k) := by
  rw [← rowNorm_eq]
  unfold rowNorm
  simp only [xrow_tok]
  pointwise [val_main_v14, val_main_v13, val_main_v12, val_main_v11, val_main_v10, val_main_v9, val_main_v8, val_main_v7, val_main_v6,
    val_main_v5, val_main_v4, val_main_v3, val_main_v2, val_main_v1, val_main_cst, val_main_cst_0, val_main_cst_1]
  rw [ofBits_2048, ofBits_eps]

/-- The angle of a position at a pair. -/
theorem angle (s : Fin 4096) (j : Fin 8) : val_main_v55 (F := Ideal) (ix2 s j) = ((ang s.val j.val : ℝ) : EReal) := by
  pointwise [val_main_v55, val_main_v54, val_main_v53, val_main_v52, val_main_v51, val_main_v50, val_main_v49, val_main_v48, val_main_v47,
    val_main_v46, val_main_v45, val_main_v44, val_main_v43, val_main_v42, val_main_v0, val_main_cst_5, val_main_cst_6, val_main_cst_7]
  exact ang_eq s.val j.val

/-- A projected row. -/
theorem proj (hG : IsReal (S := S1x2048) x1) (hW : IsReal (S := S1x2048x6656) x2) (b : Fin 8) (s : Fin 4096) (j : Fin 6656) :
    val_main_v16 (F := Ideal) x0 x1 x2 (ix3 b s j) = (((par x0 x1 x2 x3 x4 x5).Z (tok b s) j.val : ℝ) : EReal) := by
  rw [← dot_gain (hG := hG) (hW := hW)]
  unfold val_main_v16
  generalize h : val_main_v14 (F := Ideal) x0 x1 = y
  pointwise [val_main_v15]
  subst h
  exact Finset.sum_congr rfl fun k _ => congrArg (· * x2 (ix3 0 k j)) (row x0 x1 b s k)

/-- The norm of a head. -/
theorem head_norm (z G : ℕ → ℝ) (h : ℕ) (d : Fin 64) (g : EReal) (hg : g = ((G d.val : ℝ) : EReal)) :
    ((z (64 * h + d.val) : ℝ) : EReal) * Ideal.rsqrt (Ideal.div (∑ x : Fin 64, ((z (64 * h + x.val) : ℝ) : EReal) * ((z (64 * h + x.val) : ℝ) : EReal))
      (Ideal.ofBits .f32 0x42800000#32) + Ideal.ofBits .f32 0x358637BD#32) * g = ((hnorm z G h d.val : ℝ) : EReal) := by
  rw [sum_eq_coe _ (fun x : Fin 64 => z (64 * h + x.val) * z (64 * h + x.val)) (fun x => (EReal.coe_mul _ _).symm), ofBits_64, ofBits_eps,
    div_coe _ _ (by norm_num), ← EReal.coe_add, rsqrt_coe, hg, ← EReal.coe_mul, ← EReal.coe_mul]
  · rfl
  · have h1 := eps_pos
    have h2 := Finset.sum_nonneg (s := Finset.univ) fun (x : Fin 64) _ => mul_self_nonneg (z (64 * h + x.val))
    positivity

/-- The rotary embedding of a head. -/
theorem turn (y : ℕ → ℝ) (n : ℕ) (d : Fin 64) :
    (if d.val < 16 then
      if d.val < 8 then ((y d.val : ℝ) : EReal) * Ideal.cos ((ang n d.val : ℝ) : EReal) - ((y (8 + d.val) : ℝ) : EReal) * Ideal.sin ((ang n d.val : ℝ) : EReal)
      else ((y (8 + (d.val - 8)) : ℝ) : EReal) * Ideal.cos ((ang n (d.val - 8) : ℝ) : EReal)
        + ((y (d.val - 8) : ℝ) : EReal) * Ideal.sin ((ang n (d.val - 8) : ℝ) : EReal)
    else ((y (16 + (d.val - 16)) : ℝ) : EReal))
      = ((rot (fun j => Real.cos (ang n j)) (fun j => Real.sin (ang n j)) y d.val : ℝ) : EReal) := by
  have hc : ∀ x : ℝ, Ideal.cos (x : EReal) = ((Real.cos x : ℝ) : EReal) := fun _ => rfl
  have hs : ∀ x : ℝ, Ideal.sin (x : EReal) = ((Real.sin x : ℝ) : EReal) := fun _ => rfl
  unfold rot
  by_cases h1 : d.val < 8
  · rw [if_pos (by omega), if_pos h1, if_pos h1, hc, hs, ← EReal.coe_mul, ← EReal.coe_mul, ← EReal.coe_sub, Nat.add_comm 8]
  by_cases h2 : d.val < 16
  · rw [if_pos h2, if_neg h1, if_neg h1, if_pos h2, hc, hs, ← EReal.coe_mul, ← EReal.coe_mul, ← EReal.coe_add,
      show 8 + (d.val - 8) = d.val by omega]
  · rw [if_neg h2, if_neg h1, if_neg h2, show 16 + (d.val - 16) = d.val by omega]

variable (hG : IsReal (S := S1x2048) x1) (hW : IsReal (S := S1x2048x6656) x2)
include hG hW

/-- A query head before its norm. -/
theorem qHead (b : Fin 8) (s : Fin 4096) (h : Fin 16) (d : Fin 64) :
    val_main_v25 (F := Ideal) x0 x1 x2 (ix4 b s h d) = (((par x0 x1 x2 x3 x4 x5).Z (tok b s) (64 * h.val + d.val) : ℝ) : EReal) := by
  unfold val_main_v25 val_main_v17
  generalize e : val_main_v16 (F := Ideal) x0 x1 x2 = y
  pointwise
  subst e
  refine (proj x0 x1 x2 x3 x4 x5 hG hW b s _).trans ?_
  congr 2
  dsimp only
  omega

/-- A key head before its norm. -/
theorem kHead (b : Fin 8) (s : Fin 4096) (h : Fin 4) (d : Fin 64) :
    val_main_v26 (F := Ideal) x0 x1 x2 (ix4 b s h d) = (((par x0 x1 x2 x3 x4 x5).Z (tok b s) (64 * (16 + h.val) + d.val) : ℝ) : EReal) := by
  unfold val_main_v26 val_main_v18
  generalize e : val_main_v16 (F := Ideal) x0 x1 x2 = y
  pointwise
  subst e
  refine (proj x0 x1 x2 x3 x4 x5 hG hW b s _).trans ?_
  congr 2
  dsimp only
  omega

/-- A value head. -/
theorem vHead (b : Fin 8) (s : Fin 4096) (h : Fin 4) (d : Fin 64) :
    val_main_v27 (F := Ideal) x0 x1 x2 (ix4 b s h d) = (((par x0 x1 x2 x3 x4 x5).V (tok b s) h.val d.val : ℝ) : EReal) := by
  unfold val_main_v27 val_main_v19
  generalize e : val_main_v16 (F := Ideal) x0 x1 x2 = y
  pointwise
  subst e
  refine (proj x0 x1 x2 x3 x4 x5 hG hW b s _).trans ?_
  unfold Par.V
  congr 2
  dsimp only
  omega

/-- A query head, normed. -/
theorem qNorm (hq : IsReal (S := S1x64) x3) (b : Fin 8) (s : Fin 4096) (h : Fin 16) (d : Fin 64) :
    val_main_v41 (F := Ideal) x0 x1 x2 x3 (ix4 b s h d)
      = ((hnorm ((par x0 x1 x2 x3 x4 x5).Z (tok b s)) (par x0 x1 x2 x3 x4 x5).Gq h.val d.val : ℝ) : EReal) := by
  unfold val_main_v41 val_main_v38 val_main_v37 val_main_v36 val_main_v35 val_main_v33 val_main_v31 val_main_v30 val_main_v29
  generalize e : val_main_v25 (F := Ideal) x0 x1 x2 = y
  pointwise [val_main_v40, val_main_v39, val_main_v34, val_main_v32, val_main_v28, val_main_cst_2, val_main_cst_3, val_main_cst_4]
  subst e
  simp only [qHead x0 x1 x2 x3 x4 x5 hG hW]
  exact head_norm _ _ _ d _ (by rw [← hq]; simp only [par, Nat.mod_eq_of_lt d.isLt])

/-- A key head, normed. -/
theorem kNorm (hk : IsReal (S := S1x64) x4) (b : Fin 8) (s : Fin 4096) (h : Fin 4) (d : Fin 64) :
    val_main_v89 (F := Ideal) x0 x1 x2 x4 (ix4 b s h d)
      = ((hnorm ((par x0 x1 x2 x3 x4 x5).Z (tok b s)) (par x0 x1 x2 x3 x4 x5).Gk (16 + h.val) d.val : ℝ) : EReal) := by
  unfold val_main_v89 val_main_v86 val_main_v85 val_main_v84 val_main_v83 val_main_v81 val_main_v79 val_main_v78 val_main_v77
  generalize e : val_main_v26 (F := Ideal) x0 x1 x2 = y
  pointwise [val_main_v88, val_main_v87, val_main_v82, val_main_v80, val_main_v76, val_main_cst_8, val_main_cst_9, val_main_cst_10]
  subst e
  simp only [kHead x0 x1 x2 x3 x4 x5 hG hW]
  exact head_norm _ _ _ d _ (by rw [← hk]; simp only [par, Nat.mod_eq_of_lt d.isLt])

/-- A query head, turned. -/
theorem query (hq : IsReal (S := S1x64) x3) (b : Fin 8) (s : Fin 4096) (h : Fin 16) (d : Fin 64) :
    val_main_v75 (F := Ideal) x0 x1 x2 x3 (ix4 b s h d) = (((par x0 x1 x2 x3 x4 x5).Q (tok b s) h.val d.val : ℝ) : EReal) := by
  unfold val_main_v75 val_main_v74 val_main_v73 val_main_v72 val_main_v71 val_main_v69 val_main_v67 val_main_v66 val_main_v64 val_main_v62
    val_main_v61 val_main_v60
  generalize e : val_main_v41 (F := Ideal) x0 x1 x2 x3 = y
  unfold val_main_v70 val_main_v68 val_main_v65 val_main_v63 val_main_v59 val_main_v58 val_main_v57 val_main_v56
  generalize e' : val_main_v55 (F := Ideal) = a
  pointwise
  subst e e'
  simp only [qNorm x0 x1 x2 x3 x4 x5 hG hW hq, angle]
  unfold Par.Q
  rw [show tok b s % 4096 = s.val by unfold tok; omega]
  exact turn _ s.val d

/-- A key head, turned. -/
theorem key (hk : IsReal (S := S1x64) x4) (b : Fin 8) (s : Fin 4096) (h : Fin 4) (d : Fin 64) :
    val_main_v123 (F := Ideal) x0 x1 x2 x4 (ix4 b s h d) = (((par x0 x1 x2 x3 x4 x5).K (tok b s) h.val d.val : ℝ) : EReal) := by
  unfold val_main_v123 val_main_v122 val_main_v121 val_main_v120 val_main_v119 val_main_v117 val_main_v115 val_main_v114 val_main_v112
    val_main_v110 val_main_v109 val_main_v108
  generalize e : val_main_v89 (F := Ideal) x0 x1 x2 x4 = y
  unfold val_main_v118 val_main_v116 val_main_v113 val_main_v111 val_main_v107 val_main_v106 val_main_v105 val_main_v104
  rw [show val_main_v103 (F := Ideal) = val_main_v55 from rfl]
  generalize e' : val_main_v55 (F := Ideal) = a
  pointwise
  subst e e'
  simp only [kNorm x0 x1 x2 x3 x4 x5 hG hW hk, angle]
  unfold Par.K
  rw [show tok b s % 4096 = s.val by unfold tok; omega]
  exact turn _ s.val d

end Cert.ReferenceIdeal.Rows
-- ==== Proof.RefBlocks.lean ====
module

public import proofs.«01_k».proof.Proof.RefRows

/-! # The reference's blocks of keys, values and queries, and its mask -/

@[expose] public section

set_option maxRecDepth 16384

noncomputable section

namespace Cert.ReferenceIdeal.Rows

open Cert.ReferenceIdeal Cert.ReferenceIdeal.Gen Cert.ReferenceIdeal.Read Idealize.ShloMosaic Cert.RealMath Cert.Spec

variable (x0 : Vec Ideal S8x4096x2048 .f32) (x1 : Vec Ideal S1x2048 .f32) (x2 : Vec Ideal S1x2048x6656 .f32)
  (x3 x4 : Vec Ideal S1x64 .f32) (x5 : Vec Ideal S1x16 .f32)

/-- Token `r` of block `k` of sequence `b`. -/
abbrev btok (b : Fin 8) (k : Fin 32) (r : ℕ) : ℕ := 4096 * b.val + 128 * k.val + r

/-- A block's columns: the tokens of the block before, none before a sequence's first, then the block's own. -/
theorem twoBlocks (f : ℕ → ℝ) (b : Fin 8) (k : Fin 32) (c : Fin 256) :
    (if c.val < 128 then
      if (1 ≤ k.val ∧ k.val - 1 < 32) ∧ c.val < 128 then ((f (4096 * b.val + ((k.val - 1) * 128 + c.val)) : ℝ) : EReal)
      else FloatOps.sitofp (F := Ideal) .f32 (0#32)
    else ((f (4096 * b.val + (k.val * 128 + (c.val - 128))) : ℝ) : EReal))
      = ((if (4096 * b.val + 128 * k.val) % 4096 < 128 ∧ c.val < 128 then 0
          else f (4096 * b.val + 128 * k.val - (4096 * b.val + 128 * k.val) % 128 + c.val - 128) : ℝ) : EReal) := by
  have := k.isLt
  by_cases h : c.val < 128
  · by_cases h1 : 1 ≤ k.val
    · rw [if_pos h, if_pos (by omega), if_neg (by omega)]
      congr 2
      omega
    · rw [if_pos h, if_neg (by omega), if_pos (by omega)]
      show (((0#32 : BitVec 32).toInt : ℝ) : EReal) = _
      simp
  · rw [if_neg h, if_neg (by omega)]
    congr 2
    omega

/-- The comparisons of the mask, on words. -/
theorem ge_word : ∀ (r : Fin 128) (c : Fin 256), IntOp.cmpi .sge (IntOp.subi (IntOp.addi (BitVec.ofNat 32 r.val) 128#32) (BitVec.ofNat 32 c.val)) 0#32
    = if c.val ≤ r.val + 128 then 1#1 else 0#1 := by decide +kernel
theorem lt_word : ∀ (r : Fin 128) (c : Fin 256), IntOp.cmpi .slt (IntOp.subi (IntOp.addi (BitVec.ofNat 32 r.val) 128#32) (BitVec.ofNat 32 c.val)) 128#32
    = if r.val < c.val then 1#1 else 0#1 := by decide +kernel
theorem first_word : ∀ (k : Fin 32) (c : Fin 256), IntOp.cmpi .sge
    (IntOp.addi (IntOp.subi (IntOp.muli (BitVec.ofNat 32 k.val) 128#32) 128#32) (BitVec.ofNat 32 c.val)) 0#32
    = if 1 ≤ k.val ∨ 128 ≤ c.val then 1#1 else 0#1 := by decide +kernel

/-- The mask. -/
theorem mask (b : Fin 8) (k : Fin 32) (g u : Fin 4) (r : Fin 128) (c : Fin 256) :
    val_main_call2_v1 (F := Ideal) (ix6 b k g u r c) = if band (btok b k r.val) c then 1#1 else 0#1 := by
  pointwise [val_main_call2_v1, val_main_v173, val_main_v172, val_main_v171, val_main_v170, val_main_v169, val_main_v168, val_main_v167,
    val_main_v166, val_main_v165, val_main_v164, val_main_v163, val_main_v162, val_main_v161, val_main_v160, val_main_v159, val_main_v158,
    val_main_v157, val_main_v156, val_main_v155, val_main_v154, val_main_v153, val_main_v152, val_main_v151, val_main_v150, val_main_v149,
    val_main_v148, val_main_v147, val_main_v146, val_main_v145, val_main_v144, val_main_v143, val_main_v142, val_main_v141, val_main_v140,
    val_main_v139, val_main_v138, val_main_c_16, val_main_c_17, val_main_c_18, val_main_c_19, val_main_c_20, val_main_c_21]
  have := r.isLt
  have := k.isLt
  have e1 : ∀ x y z : BitVec 32, IntOp.subi (IntOp.addi x y) (IntOp.addi (IntOp.subi x 128#32) z)
      = IntOp.subi (IntOp.addi y 128#32) z := fun x y z => by
    show x + y - (x - 128#32 + z) = y + 128#32 - z
    bv_omega
  rw [e1, ge_word r c, lt_word r c, first_word k c]
  have hb : band (btok b k r.val) c ↔ r.val < c.val ∧ c.val ≤ r.val + 128 ∧ (1 ≤ k.val ∨ 128 ≤ c.val) := by
    unfold band btok
    rw [show (4096 * b.val + 128 * k.val + r.val) % 128 = r.val by omega,
      show 128 ≤ (4096 * b.val + 128 * k.val + r.val) % 4096 ↔ 1 ≤ k.val by omega]
  rw [if_congr hb rfl rfl]
  by_cases p1 : c.val ≤ r.val + 128 <;> by_cases p2 : r.val < c.val <;> by_cases p3 : 1 ≤ k.val ∨ 128 ≤ c.val <;>
    simp only [p1, p2, p3, if_true, if_false, and_true, true_and, and_false, false_and] <;> rfl

variable (hG : IsReal (S := S1x2048) x1) (hW : IsReal (S := S1x2048x6656) x2)
include hG hW

/-- The queries of a block. -/
theorem blockQ (hq : IsReal (S := S1x64) x3) (b : Fin 8) (k : Fin 32) (r : Fin 128) (g u : Fin 4) (d : Fin 64) :
    val_main_v125 (F := Ideal) x0 x1 x2 x3 (ix6 b k r g u d)
      = (((par x0 x1 x2 x3 x4 x5).Q (btok b k r.val) (4 * g.val + u.val) d.val : ℝ) : EReal) := by
  unfold val_main_v125
  generalize e : val_main_v75 (F := Ideal) x0 x1 x2 x3 = y
  pointwise
  subst e
  refine (query x0 x1 x2 x3 x4 x5 hG hW hq b _ _ d).trans ?_
  congr 2
  · show 4096 * b.val + (k.val * 128 + r.val) = 4096 * b.val + 128 * k.val + r.val
    omega
  · show g.val * 4 + u.val = 4 * g.val + u.val
    omega

/-- The keys of a block and of the block before. -/
theorem blockK (hk : IsReal (S := S1x64) x4) (b : Fin 8) (k : Fin 32) (c : Fin 256) (g : Fin 4) (d : Fin 64) :
    val_main_v129 (F := Ideal) x0 x1 x2 x4 (ix5 b k c g d)
      = (((par x0 x1 x2 x3 x4 x5).kb (btok b k 0) g.val c.val d.val : ℝ) : EReal) := by
  unfold val_main_v129 val_main_v128 val_main_v127 val_main_v126
  generalize e : val_main_v123 (F := Ideal) x0 x1 x2 x4 = y
  pointwise [val_main_call0_v0, val_main_c]
  subst e
  simp only [key x0 x1 x2 x3 x4 x5 hG hW hk]
  exact twoBlocks (fun n => (par x0 x1 x2 x3 x4 x5).K n g.val d.val) b k c

/-- The values of a block and of the block before. -/
theorem blockV (b : Fin 8) (k : Fin 32) (c : Fin 256) (g : Fin 4) (d : Fin 64) :
    val_main_v133 (F := Ideal) x0 x1 x2 (ix5 b k c g d)
      = (((par x0 x1 x2 x3 x4 x5).vb (btok b k 0) g.val c.val d.val : ℝ) : EReal) := by
  unfold val_main_v133 val_main_v132 val_main_v131 val_main_v130
  generalize e : val_main_v27 (F := Ideal) x0 x1 x2 = y
  pointwise [val_main_call1_v0, val_main_c_14]
  subst e
  simp only [vHead x0 x1 x2 x3 x4 x5 hG hW]
  exact twoBlocks (fun n => (par x0 x1 x2 x3 x4 x5).V n g.val d.val) b k c

end Cert.ReferenceIdeal.Rows
-- ==== Proof.RefAttn.lean ====
module

public import proofs.«01_k».proof.Proof.RefBlocks

/-! # The reference's attention and its two results, over the real numbers -/

@[expose] public section

set_option maxRecDepth 16384

noncomputable section

namespace Cert.ReferenceIdeal.Rows

open Cert.ReferenceIdeal Cert.ReferenceIdeal.Gen Cert.ReferenceIdeal.Read Idealize.ShloMosaic Cert.RealMath Cert.Spec

variable (x0 : Vec Ideal S8x4096x2048 .f32) (x1 : Vec Ideal S1x2048 .f32) (x2 : Vec Ideal S1x2048x6656 .f32)
  (x3 x4 : Vec Ideal S1x64 .f32) (x5 : Vec Ideal S1x16 .f32)

variable (hG : IsReal (S := S1x2048) x1) (hW : IsReal (S := S1x2048x6656) x2) (hq : IsReal (S := S1x64) x3) (hk : IsReal (S := S1x64) x4)
include hG hW hq hk

omit hG hW hq hk in
/-- The keys that a token attends to are its block's. -/
theorem kb_block (P : Par) (b : Fin 8) (k : Fin 32) (r : Fin 128) (g c d : ℕ) : P.kb (btok b k r.val) g c d = P.kb (btok b k 0) g c d := by
  unfold Par.kb
  simp only [show ((btok b k r.val) % 4096 < 128) = ((btok b k 0) % 4096 < 128) from propext (by simp only [btok]; omega),
    show btok b k r.val - btok b k r.val % 128 = btok b k 0 - btok b k 0 % 128 by simp only [btok]; omega]

omit hG hW hq hk in
/-- The values likewise. -/
theorem vb_block (P : Par) (b : Fin 8) (k : Fin 32) (r : Fin 128) (g c d : ℕ) : P.vb (btok b k r.val) g c d = P.vb (btok b k 0) g c d := by
  unfold Par.vb
  simp only [show ((btok b k r.val) % 4096 < 128) = ((btok b k 0) % 4096 < 128) from propext (by simp only [btok]; omega),
    show btok b k r.val - btok b k r.val % 128 = btok b k 0 - btok b k 0 % 128 by simp only [btok]; omega]

/-- The masked scores. -/
theorem scores (b : Fin 8) (k : Fin 32) (g u : Fin 4) (r : Fin 128) (c : Fin 256) :
    val_main_v174 (F := Ideal) x0 x1 x2 x3 x4 (ix6 b k g u r c)
      = rscore (band (btok b k r.val)) ((par x0 x1 x2 x3 x4 x5).S (btok b k r.val) (4 * g.val + u.val)) c := by
  unfold val_main_v174 val_main_v137 val_main_v135 val_main_v134
  generalize e1 : val_main_v129 (F := Ideal) x0 x1 x2 x4 = y1
  generalize e2 : val_main_v125 (F := Ideal) x0 x1 x2 x3 = y2
  generalize e3 : val_main_call2_v1 (F := Ideal) = y3
  pointwise [val_main_call2_v2, val_main_call2_v0, val_main_v136, val_main_cst_15, val_main_cst_22]
  subst e1 e2 e3
  simp only [blockK x0 x1 x2 x3 x4 x5 hG hW hk, blockQ x0 x1 x2 x3 x4 x5 hG hW hq, mask]
  rw [sum_eq_coe _ (fun x : Fin 64 => (par x0 x1 x2 x3 x4 x5).kb (btok b k 0) g.val c.val x.val * (par x0 x1 x2 x3 x4 x5).Q (btok b k r.val) (4 * g.val + u.val) x.val)
    (fun x => (EReal.coe_mul _ _).symm), ofBits_eighth, ← EReal.coe_mul]
  unfold rscore
  by_cases hb : band (btok b k r.val) c
  · rw [if_pos hb, if_pos hb]
    change Real.toEReal _ = _
    refine congrArg Real.toEReal ?_
    unfold Par.S
    rw [show (4 * g.val + u.val) / 4 = g.val by omega, div_eq_mul_inv]
    congr 1
    · exact Finset.sum_congr rfl fun x _ => by rw [kb_block, mul_comm]
    · norm_num
  · rw [if_neg hb, if_neg hb]
    exact (rfl : Scalar.select 0#1 _ _ = _).trans ofBits_negInf

omit hG hW hq hk in
/-- The greatest score of a row. -/
theorem rowMax (b : Fin 8) (k : Fin 32) (g u : Fin 4) (r : Fin 128) :
    val_main_v177 (F := Ideal) x0 x1 x2 x3 x4 (ix5 b k g u r)
      = (Finset.univ : Finset (Fin 256)).fold max ⊥ (fun c => val_main_v174 (F := Ideal) x0 x1 x2 x3 x4 (ix6 b k g u r c)) := by
  unfold val_main_v177
  generalize val_main_v174 (F := Ideal) x0 x1 x2 x3 x4 = y
  refine (Host.reduce_eq_fold_single (max : EReal → EReal → EReal) y (val_main_cst_23 (F := Ideal)) reducesTo_S8x32x4x4x128x256_S8x32x4x4x128_d5
    (by decide) h_S_ (ix5 b k g u r)).trans ?_
  have h0 : val_main_cst_23 (F := Ideal) (Shape.Idx.first h_S_) = ⊥ := ofBits_negInf
  rw [h0]
  refine congrArg (Finset.fold (β := EReal) max ⊥ · (Finset.univ : Finset (Fin 256))) (funext fun c => congrArg y (funext fun a => Fin.ext ?_))
  match a with
  | ⟨0, _⟩ => rfl
  | ⟨1, _⟩ => rfl
  | ⟨2, _⟩ => rfl
  | ⟨3, _⟩ => rfl
  | ⟨4, _⟩ => rfl
  | ⟨5, _⟩ => rfl

omit hG hW hq hk in
/-- The sinks, by group and head of the group. -/
theorem sink (g u : Fin 4) : val_main_v176 (F := Ideal) x5 (ix6 0 0 g u 0 0) = x5 (ix2 0 ⟨4 * g.val + u.val, by omega⟩) := by
  rw [val_main_v176_apply, val_main_v175_apply, val_main_v124_apply]
  refine congrArg x5 (funext fun a => Fin.ext ?_)
  match a with
  | ⟨0, _⟩ => rfl
  | ⟨1, _⟩ => show (g.val * 4 + u.val) % 16 = 4 * g.val + u.val; omega

omit hG hW hq hk in
theorem max_at {s : Shape} (y z : FVec Ideal s .f32) (i : s.Idx) : maximumf y z i = max (α := EReal) (y i) (z i) := rfl

omit hG hW hq hk in
/-- The stage that takes the greater of the two. -/
theorem top_at (i : S8x32x4x4x128x1.Idx) : val_main_v180 (F := Ideal) x0 x1 x2 x3 x4 x5 i
    = max (α := EReal) (val_main_v178 (F := Ideal) x0 x1 x2 x3 x4 i) (val_main_v179 (F := Ideal) x5 i) := by
  unfold val_main_v180
  rw [max_at]

omit hG hW hq hk in
/-- The greatest of a row's scores and its head's sink. -/
theorem top (b : Fin 8) (k : Fin 32) (g u : Fin 4) (r : Fin 128) :
    val_main_v180 (F := Ideal) x0 x1 x2 x3 x4 x5 (ix6 b k g u r 0)
      = max ((Finset.univ : Finset (Fin 256)).fold max ⊥ (fun c => val_main_v174 (F := Ideal) x0 x1 x2 x3 x4 (ix6 b k g u r c)))
        (x5 (ix2 0 ⟨4 * g.val + u.val, by omega⟩)) := by
  rw [← rowMax, ← sink x5 g u]
  have h1 : val_main_v178 (F := Ideal) x0 x1 x2 x3 x4 (ix6 b k g u r 0) = val_main_v177 (F := Ideal) x0 x1 x2 x3 x4 (ix5 b k g u r) := by
    unfold val_main_v178
    generalize val_main_v177 (F := Ideal) x0 x1 x2 x3 x4 = y
    pointwise
  have h2 : val_main_v179 (F := Ideal) x5 (ix6 b k g u r 0) = val_main_v176 (F := Ideal) x5 (ix6 0 0 g u 0 0) := by
    unfold val_main_v179
    generalize val_main_v176 (F := Ideal) x5 = z
    pointwise
  rw [top_at, h1, h2]

omit hG hW hq hk in
/-- One column's weight. -/
theorem weight (b : Fin 8) (k : Fin 32) (g u : Fin 4) (r : Fin 128) (c : Fin 256) :
    val_main_v183 (F := Ideal) x0 x1 x2 x3 x4 x5 (ix6 b k g u r c)
      = Ideal.exp (val_main_v174 (F := Ideal) x0 x1 x2 x3 x4 (ix6 b k g u r c) - val_main_v180 (F := Ideal) x0 x1 x2 x3 x4 x5 (ix6 b k g u r 0)) := by
  unfold val_main_v183 val_main_v182 val_main_v181
  generalize val_main_v174 (F := Ideal) x0 x1 x2 x3 x4 = y
  generalize val_main_v180 (F := Ideal) x0 x1 x2 x3 x4 x5 = z
  pointwise

omit hG hW hq hk in
/-- A row's sum of weights. -/
theorem rowSum (b : Fin 8) (k : Fin 32) (g u : Fin 4) (r : Fin 128) :
    val_main_v184 (F := Ideal) x0 x1 x2 x3 x4 x5 (ix5 b k g u r) = ∑ c : Fin 256, val_main_v183 (F := Ideal) x0 x1 x2 x3 x4 x5 (ix6 b k g u r c) := by
  rw [val_main_v184_apply]
  generalize val_main_v183 (F := Ideal) x0 x1 x2 x3 x4 x5 = y
  have h0 : val_main_cst_24 (F := Ideal) (Shape.Idx.first h_S_) = 0 := Ideal.ofBits_zero_f32
  rw [h0, zero_add]
  refine Finset.sum_congr rfl fun c _ => congrArg y (funext fun a => Fin.ext ?_)
  match a with
  | ⟨0, _⟩ => rfl
  | ⟨1, _⟩ => rfl
  | ⟨2, _⟩ => rfl
  | ⟨3, _⟩ => rfl
  | ⟨4, _⟩ => rfl
  | ⟨5, _⟩ => rfl

omit hG hW hq hk in
/-- A row's denominator: the sum of its weights and the sink's weight. -/
theorem denom (b : Fin 8) (k : Fin 32) (g u : Fin 4) (r : Fin 128) :
    val_main_v189 (F := Ideal) x0 x1 x2 x3 x4 x5 (ix6 b k g u r 0)
      = (∑ c : Fin 256, val_main_v183 (F := Ideal) x0 x1 x2 x3 x4 x5 (ix6 b k g u r c))
        + Ideal.exp (x5 (ix2 0 ⟨4 * g.val + u.val, by omega⟩) - val_main_v180 (F := Ideal) x0 x1 x2 x3 x4 x5 (ix6 b k g u r 0)) := by
  rw [← rowSum, ← sink x5 g u]
  unfold val_main_v189 val_main_v188 val_main_v187 val_main_v186 val_main_v185
  generalize val_main_v184 (F := Ideal) x0 x1 x2 x3 x4 x5 = y
  generalize val_main_v180 (F := Ideal) x0 x1 x2 x3 x4 x5 = z
  generalize val_main_v176 (F := Ideal) x5 = s
  pointwise

/-- The weights of the scores: numerators and denominator. -/
theorem weights (hs : IsReal (S := S1x16) x5) (b : Fin 8) (k : Fin 32) (g u : Fin 4) (r : Fin 128) : ∃ f : ℝ, 0 < f ∧
    (∀ c : Fin 256, val_main_v183 (F := Ideal) x0 x1 x2 x3 x4 x5 (ix6 b k g u r c) = ((f * wt (band (btok b k r.val)) ((par x0 x1 x2 x3 x4 x5).S (btok b k r.val) (4 * g.val + u.val)) c : ℝ) : EReal)) ∧
    val_main_v189 (F := Ideal) x0 x1 x2 x3 x4 x5 (ix6 b k g u r 0)
      = ((f * ((∑ c, wt (band (btok b k r.val)) ((par x0 x1 x2 x3 x4 x5).S (btok b k r.val) (4 * g.val + u.val)) c) + Real.exp ((par x0 x1 x2 x3 x4 x5).a (4 * g.val + u.val))) : ℝ) : EReal) := by
  obtain ⟨f, hf, h1, h2⟩ := ref_weights (band (btok b k r.val)) ((par x0 x1 x2 x3 x4 x5).S (btok b k r.val) (4 * g.val + u.val)) ((par x0 x1 x2 x3 x4 x5).a (4 * g.val + u.val))
    (fun c => val_main_v174 (F := Ideal) x0 x1 x2 x3 x4 (ix6 b k g u r c)) (scores x0 x1 x2 x3 x4 x5 hG hW hq hk b k g u r)
    (x5 (ix2 0 ⟨4 * g.val + u.val, by omega⟩)) (by rw [← hs]; simp only [par, Nat.mod_eq_of_lt (show 4 * g.val + u.val < 16 by omega)])
  refine ⟨f, hf, fun c => ?_, ?_⟩
  · rw [← h1, weight, top]
  · rw [← h2, denom, top]
    simp only [weight, top]

end Cert.ReferenceIdeal.Rows
-- ==== Proof.RefOut.lean ====
module

public import proofs.«01_k».proof.Proof.RefAttn

/-! # The reference's two results, over the real numbers -/

@[expose] public section

set_option maxRecDepth 16384

noncomputable section

namespace Cert.ReferenceIdeal.Rows

open Cert.ReferenceIdeal Cert.ReferenceIdeal.Gen Cert.ReferenceIdeal.Read Idealize.ShloMosaic Cert.RealMath Cert.Spec

variable (x0 : Vec Ideal S8x4096x2048 .f32) (x1 : Vec Ideal S1x2048 .f32) (x2 : Vec Ideal S1x2048x6656 .f32)
  (x3 x4 : Vec Ideal S1x64 .f32) (x5 : Vec Ideal S1x16 .f32)

variable (hG : IsReal (S := S1x2048) x1) (hW : IsReal (S := S1x2048x6656) x2)
include hG hW

/-- The attention's lane `d` of a query head. -/
theorem attention (hq : IsReal (S := S1x64) x3) (hk : IsReal (S := S1x64) x4) (hs : IsReal (S := S1x16) x5)
    (b : Fin 8) (k : Fin 32) (r : Fin 128) (g u : Fin 4) (d : Fin 64) :
    val_main_v193 (F := Ideal) x0 x1 x2 x3 x4 x5 (ix6 b k r g u d)
      = ((att (band (btok b k r.val)) ((par x0 x1 x2 x3 x4 x5).S (btok b k r.val) (4 * g.val + u.val)) ((par x0 x1 x2 x3 x4 x5).a (4 * g.val + u.val))
          (fun c => (par x0 x1 x2 x3 x4 x5).vb (btok b k r.val) g.val c.val d.val) : ℝ) : EReal) := by
  obtain ⟨f, hf, he, hd⟩ := weights x0 x1 x2 x3 x4 x5 hG hW hq hk hs b k g u r
  rw [← ref_att _ _ _ _ f hf _ he _ hd]
  unfold val_main_v193 val_main_v192 val_main_v191 val_main_v190
  generalize e1 : val_main_v133 (F := Ideal) x0 x1 x2 = y1
  generalize val_main_v183 (F := Ideal) x0 x1 x2 x3 x4 x5 = y2
  generalize val_main_v189 (F := Ideal) x0 x1 x2 x3 x4 x5 = y3
  pointwise
  subst e1
  simp only [blockV x0 x1 x2 x3 x4 x5 hG hW, vb_block]

omit hG hW in
/-- The heads side by side. -/
theorem flat (b : Fin 8) (s : Fin 4096) (j : Fin 1024) :
    val_main_v194 (F := Ideal) x0 x1 x2 x3 x4 x5 (ix3 b s j)
      = val_main_v193 (F := Ideal) x0 x1 x2 x3 x4 x5 (ix6 b ⟨s.val / 128, by omega⟩ ⟨s.val % 128, by omega⟩ ⟨j.val / 256, by omega⟩ ⟨j.val / 64 % 4, by omega⟩ ⟨j.val % 64, by omega⟩) := by
  unfold val_main_v194
  generalize val_main_v193 (F := Ideal) x0 x1 x2 x3 x4 x5 = y
  pointwise

/-- The gate. -/
theorem gate (b : Fin 8) (s : Fin 4096) (j : Fin 1024) :
    val_main_v195 (F := Ideal) x0 x1 x2 (ix3 b s j) = ((silu ((par x0 x1 x2 x3 x4 x5).Z (tok b s) (1536 + j.val)) : ℝ) : EReal) := by
  rw [← silu_ref]
  unfold val_main_v195 val_main_call3_v5 val_main_call3_v3 val_main_call3_v1 val_main_call3_v0 val_main_v20
  generalize e2 : val_main_v16 (F := Ideal) x0 x1 x2 = y2
  pointwise [val_main_call3_v2, val_main_call3_v4, val_main_call3_cst, val_main_call3_cst_0]
  subst e2
  simp only [proj x0 x1 x2 x3 x4 x5 hG hW]

/-- The gated attention. -/
theorem gated (hq : IsReal (S := S1x64) x3) (hk : IsReal (S := S1x64) x4) (hs : IsReal (S := S1x16) x5)
    (b : Fin 8) (s : Fin 4096) (j : Fin 1024) :
    val_main_v196 (F := Ideal) x0 x1 x2 x3 x4 x5 (ix3 b s j) = (((par x0 x1 x2 x3 x4 x5).Y (tok b s) j.val : ℝ) : EReal) := by
  have e : btok b ⟨s.val / 128, by omega⟩ (s.val % 128) = tok b s := by simp only [btok, tok]; omega
  have h : 4 * (j.val / 256) + j.val / 64 % 4 = j.val / 64 := by omega
  have g : j.val / 256 = j.val / 64 / 4 := by omega
  rw [val_main_v196_apply, flat, gate x0 x1 x2 x3 x4 x5 hG hW, attention x0 x1 x2 x3 x4 x5 hG hW hq hk hs]
  dsimp only
  rw [e, h, g]
  unfold Par.Y
  exact (EReal.coe_mul _ _).symm

/-- The convolution's inputs. -/
theorem conv (b : Fin 8) (s : Fin 4096) (j : Fin 4096) :
    val_main_v199 (F := Ideal) x0 x1 x2 (ix3 b s j)
      = (((if j.val < 3072 then 1 else 1 / 2) * (par x0 x1 x2 x3 x4 x5).Z (tok b s) (2560 + j.val) : ℝ) : EReal) := by
  unfold val_main_v199 val_main_v198 val_main_v21 val_main_v22 val_main_v23 val_main_v24
  generalize e2 : val_main_v16 (F := Ideal) x0 x1 x2 = y2
  pointwise [val_main_v197, val_main_cst_25]
  subst e2
  simp only [proj x0 x1 x2 x3 x4 x5 hG hW]
  rw [ofBits_half]
  have hj := j.isLt
  split_ifs <;> first
    | (exfalso; omega)
    | (rw [one_mul]; first | done | (congr 2; omega))
    | (rw [← EReal.coe_mul]; congr 2; congr 1; omega)

end Cert.ReferenceIdeal.Rows
-- ==== Proof.Final.lean ====
module

public import proofs.«01_k».proof.Defs
public import proofs.«01_k».proof.Proof.Results
public import proofs.«01_k».proof.Proof.RefOut

/-! # The two programs' results agree -/

@[expose] public section

set_option maxRecDepth 16384

noncomputable section

namespace Cert.Final

open Idealize.ShloMosaic Idealize.SL.Sem Idealize.ShloMosaic.StableHlo Idealize.ShloMosaic.TcCoe Cert.RealMath Cert.Spec Cert.KernelIdeal.Steps

section Reference

open Cert.ReferenceIdeal Cert.ReferenceIdeal.Gen Cert.ReferenceIdeal.Read Cert.ReferenceIdeal.Rows

variable (x0 : Vec Ideal S8x4096x2048 .f32) (x1 : Vec Ideal S1x2048 .f32) (x2 : Vec Ideal S1x2048x6656 .f32)
  (x3 x4 : Vec Ideal S1x64 .f32) (x5 : Vec Ideal S1x16 .f32)

variable (hG : IsReal (S := S1x2048) x1) (hW : IsReal (S := S1x2048x6656) x2)
include hG hW

/-- The reference's gated attention. -/
theorem ref_mixed (hq : IsReal (S := S1x64) x3) (hk : IsReal (S := S1x64) x4) (hs : IsReal (S := S1x16) x5) :
    val_main_v201 (F := Ideal) x0 x1 x2 x3 x4 x5 = mixed (par x0 x1 x2 x3 x4 x5) := by
  funext i
  have h0 : (i 0).val < 32768 := (i 0).isLt
  have h1 : (i 1).val < 1024 := (i 1).isLt
  have e : idx_main_v200 i = ix3 (⟨(i 0).val / 4096, by omega⟩ : Fin 8) (⟨(i 0).val % 4096, by omega⟩ : Fin 4096) (⟨(i 1).val, h1⟩ : Fin 1024) := by
    funext a
    apply Fin.ext
    match a with
    | ⟨0, _⟩ => show ((i 0).val * 1024 + (i 1).val) / 4194304 = (i 0).val / 4096; omega
    | ⟨1, _⟩ => show ((i 0).val * 1024 + (i 1).val) / 1024 % 4096 = (i 0).val % 4096; omega
    | ⟨2, _⟩ => show ((i 0).val * 1024 + (i 1).val) % 1024 = (i 1).val; omega
  have c : val_main_v201 (F := Ideal) x0 x1 x2 x3 x4 x5 i = val_main_v200 (F := Ideal) x0 x1 x2 x3 x4 x5 i := rfl
  rw [c, val_main_v200_apply, e, gated x0 x1 x2 x3 x4 x5 hG hW hq hk hs]
  unfold mixed
  rw [show tok ⟨(i 0).val / 4096, by omega⟩ ⟨(i 0).val % 4096, by omega⟩ = (i 0).val by simp only [tok]; omega]

/-- The reference's input of the convolution. -/
theorem ref_convIn : val_main_v202 (F := Ideal) x0 x1 x2 = convIn (par x0 x1 x2 x3 x4 x5) := by
  funext i
  have h0 : (i 0).val < 32768 := (i 0).isLt
  have h1 : (i 1).val < 4096 := (i 1).isLt
  have e : idx_main_v202 i = ix3 (⟨(i 0).val / 4096, by omega⟩ : Fin 8) (⟨(i 0).val % 4096, by omega⟩ : Fin 4096) (⟨(i 1).val, h1⟩ : Fin 4096) := by
    funext a
    apply Fin.ext
    match a with
    | ⟨0, _⟩ => show ((i 0).val * 4096 + (i 1).val) / 16777216 = (i 0).val / 4096; omega
    | ⟨1, _⟩ => show ((i 0).val * 4096 + (i 1).val) / 4096 % 4096 = (i 0).val % 4096; omega
    | ⟨2, _⟩ => show ((i 0).val * 4096 + (i 1).val) % 4096 = (i 1).val; omega
  rw [val_main_v202_apply, e, conv x0 x1 x2 x3 x4 x5 hG hW]
  unfold convIn
  rw [show tok ⟨(i 0).val / 4096, by omega⟩ ⟨(i 0).val % 4096, by omega⟩ = (i 0).val by simp only [tok]; omega]
  congr 2
  unfold KernelIdeal.Operands.half
  dsimp only
  split_ifs <;> first | rfl | omega

end Reference

section Precondition

theorem facts : Cert.Pre_finite.Facts := ⟨by decide, by decide, by decide, by decide⟩

/-- What a comparison of an absolute value with infinity says: the value is a real number. -/
theorem real_of_lt (x : EReal) (h : Ideal.cmp .olt (max x (-x)) (Ideal.ofBits .f32 0x7F800000#32) = 1#1) : ((x.toReal : ℝ) : EReal) = x := by
  have ht : Ideal.ofBits .f32 0x7F800000#32 = ⊤ := by simp [Ideal.ofBits, Ideal.ieee]
  rw [ht] at h
  induction x with
  | bot => simp [Ideal.cmp] at h
  | coe r => rfl
  | top => simp [Ideal.cmp] at h

/-- The precondition read: the five arguments are real. -/
theorem real_of_pre (m : (ℓ : Loc Cert.KernelIdeal.nD Cert.KernelIdeal.τ Cert.KernelIdeal.sig) → Buf (Elt Ideal) ℓ)
    (h : Cert.Pre_KernelIdeal_finite (hPre_finite := facts) m) (c : Dev Cert.KernelIdeal.nD) : Real m c := by
  obtain ⟨h1, h2, h3, h4, h5⟩ := h c
  exact ⟨fun i => real_of_lt _ (congrFun h1 i), fun i => real_of_lt _ (congrFun h2 i), fun i => real_of_lt _ (congrFun h3 i),
    fun i => real_of_lt _ (congrFun h4 i), fun i => real_of_lt _ (congrFun h5 i)⟩

end Precondition

section Claims

/-- The reference's run leaves its arguments and its counters, of which it declares none, as they were. -/
theorem frame_ref : Cert.quiescent_ReferenceIdeal (hReferenceIdeal := Cert.ReferenceIdeal.Gen.facts) := fun m g _ =>
  (θ_run Cert.ReferenceIdeal.defs _ _).mono (fun r h => ⟨fun c => (h c).2.2, sem_eq_zero_of_no_sems (by decide) r.2⟩)
    (Cert.ReferenceIdeal.Value.run (F := Ideal) m g)

/-- Both programs end with the gated attention and the convolution's input of the same real numbers. -/
theorem algebraic : Cert.algebraic_KernelIdeal_ReferenceIdeal_pre_finite (hKernelIdeal := Cert.KernelIdeal.Gen.facts)
    (hReferenceIdeal := Cert.ReferenceIdeal.Gen.facts) (hPre_finite := facts) := by
  intro m g m' g' hp ha
  have R := real_of_pre m hp
  refine ⟨fun c => mixed (pr m c), fun c => convIn (pr m c), ?_, ?_⟩
  · exact (θ_run Cert.KernelIdeal.defs _ _).mono
      (fun r h c => ⟨(h c).1.trans (result7 m c (R c)), (h c).2.1.trans (result8 m c (R c)), (h c).2.2⟩)
      (Cert.KernelIdeal.Value.run_blocks (F := Ideal) m g)
  · refine (θ_run Cert.ReferenceIdeal.defs _ _).mono
      (fun r h c => ⟨?_, ?_, (h c).2.2⟩) (Cert.ReferenceIdeal.Value.run (F := Ideal) m' g')
    · obtain ⟨e0, e1, e2, e3, e4, e5⟩ := ha c
      rw [(h c).1, Cert.ReferenceIdeal.Read.val_main_v201_eq (launchContents m' c), (launchContents_devRef m' c _).trans e0,
        (launchContents_devRef m' c _).trans e1, (launchContents_devRef m' c _).trans e2, (launchContents_devRef m' c _).trans e3,
        (launchContents_devRef m' c _).trans e4, (launchContents_devRef m' c _).trans e5]
      exact ref_mixed _ _ _ _ _ _ (R c).g (R c).w (R c).q (R c).k (R c).s
    · obtain ⟨e0, e1, e2, e3, e4, e5⟩ := ha c
      rw [(h c).2.1, Cert.ReferenceIdeal.Read.val_main_v202_eq (launchContents m' c), (launchContents_devRef m' c _).trans e0,
        (launchContents_devRef m' c _).trans e1, (launchContents_devRef m' c _).trans e2]
      exact ref_convIn _ _ _ _ _ _ (R c).g (R c).w

end Claims

end Cert.Final
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Final
public import Idealize.ShloMosaic.Adequacy
public import Idealize.ShloMosaic.Init

@[expose] public section

noncomputable section

namespace Cert.Proof

open Idealize.ShloMosaic Idealize.SL.Sem

/-- The frames, the three named constants, and the equality of the two programs' results. -/
theorem claim : Cert.Claim := ⟨Cert.Kernel.Gen.facts, Cert.KernelIdeal.Gen.facts, Cert.ReferenceIdeal.Gen.facts, Cert.Final.facts,
  fun m ρ _ => Cert.Kernel.Gen.frame m ρ,
  fun m ρ _ => Cert.KernelIdeal.Gen.frame m ρ,
  fun m ρ _ => Cert.KernelIdeal.Gen.frame m ρ,
  Cert.Final.frame_ref,
  fun m ρ _ => Cert.Final.frame_ref m ρ trivial,
  ⟨IdealRules.named_const.statement Cert.KernelIdeal.κ "q_scale" .f32 0x3E38AA3B#32 ((8⁻¹ * (Real.log 2)⁻¹ : ℝ) : EReal) rfl,
    IdealRules.named_const.statement Cert.KernelIdeal.κ "log2e" .f32 0x3FB8AA3B#32 (((Real.log 2)⁻¹ : ℝ) : EReal) rfl,
    IdealRules.named_const.statement Cert.KernelIdeal.κ "mask" .f32 0xF149F2CA#32 ⊥ rfl⟩,
  Cert.Final.algebraic⟩

end Cert.Proof

end
